-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3D3504F3#32 (((Real.sqrt 512)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 512]⟩ ⟨2, ![16384, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![16384, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Pre_finite_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S4096x512 : Shape := ⟨2, ![4096, 512]⟩
abbrev S2x2048x512 : Shape := ⟨3, ![2, 2048, 512]⟩
abbrev S4096x1 : Shape := ⟨2, ![4096, 1]⟩
abbrev S8 : Shape := ⟨1, ![8]⟩
abbrev S_ : Shape := ⟨0, ![]⟩
abbrev S2048x512 : Shape := ⟨2, ![2048, 512]⟩
abbrev S1x2048x512 : Shape := ⟨3, ![1, 2048, 512]⟩
abbrev S1 : Shape := ⟨1, ![1]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .local _ .vmem, ⟨0, _⟩ => ⟨S4096x512, .f32⟩
  | .local _ .vmem, ⟨1, _⟩ => ⟨S4096x512, .bf16⟩
  | .local _ .vmem, ⟨2, _⟩ => ⟨S2x2048x512, .bf16⟩
  | .local _ .vmem, ⟨3, _⟩ => ⟨S2x2048x512, .bf16⟩
  | .local _ .vmem, ⟨4, _⟩ => ⟨S2x2048x512, .bf16⟩
  | .local _ .vmem, ⟨5, _⟩ => ⟨S2x2048x512, .bf16⟩
  | .local _ .vmem, ⟨6, _⟩ => ⟨S2x2048x512, .bf16⟩
  | .local _ .vmem, ⟨7, _⟩ => ⟨S2x2048x512, .bf16⟩
  | .local _ .vmem, ⟨8, _⟩ => ⟨S4096x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v42 : BitVec 32 := Scalar.muli v24 c1_i32_28
  let v43 : BitVec 32 := Scalar.addi c0_i32_29 v42
  v43.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32 : BitVec 32 := 1#32
  let v48 : BitVec 32 := Scalar.muli v13 c1_i32_32
  let v49 : BitVec 32 := Scalar.addi c0_i32_33 v48
  v49.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v66 : BitVec 32 := Scalar.muli v24 c1_i32_46
  let v67 : BitVec 32 := Scalar.addi c0_i32_47 v66
  v67.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v72 : BitVec 32 := Scalar.muli v13 c1_i32_49
  let v73 : BitVec 32 := Scalar.addi c0_i32_50 v72
  v73.toNat
@[reducible] def k0_t1_loop : Scf.Loop 32 :=
  let c0_i32_57 : BitVec 32 := 0#32
  let c8_i32 : BitVec 32 := 8#32
  let v86 : BitVec 32 := Scalar.addi c0_i32_57 c8_i32
  let c1_i32_58 : BitVec 32 := 1#32
  ⟨c0_i32_57, v86, c1_i32_58⟩
def k0_off1 (k0_t1 : Fin k0_t1_loop.trips) : Fin 2 → Nat :=
  let c0_i32_57 : BitVec 32 := 0#32
  let c1_i32_58 : BitVec 32 := 1#32
  let arg16 : BitVec 32 := Scf.iv c0_i32_57 c1_i32_58 k0_t1
  let c512_i32 : BitVec 32 := 512#32
  let v218 : BitVec 32 := Scalar.muli arg16 c512_i32
  let v219 : Index := Scalar.indexCast v218
  let c0_251 : Index := 0#32
  ![v219.toNat, 0]
def k0_off2 (k0_t1 : Fin k0_t1_loop.trips) : Fin 2 → Nat :=
  let c0_i32_57 : BitVec 32 := 0#32
  let c1_i32_58 : BitVec 32 := 1#32
  let arg16 : BitVec 32 := Scf.iv c0_i32_57 c1_i32_58 k0_t1
  let c512_i32 : BitVec 32 := 512#32
  let v218 : BitVec 32 := Scalar.muli arg16 c512_i32
  let v233 : Index := Scalar.indexCast v218
  let c0_259 : Index := 0#32
  ![v233.toNat, 0]
@[reducible] def k0_t2_loop : Scf.Loop 32 :=
  let c0_i32_62 : BitVec 32 := 0#32
  let c8_i32_63 : BitVec 32 := 8#32
  let v87 : BitVec 32 := Scalar.addi c0_i32_62 c8_i32_63
  let c1_i32_64 : BitVec 32 := 1#32
  ⟨c0_i32_62, v87, c1_i32_64⟩
def k0_off3 (k0_t2 : Fin k0_t2_loop.trips) : Fin 2 → Nat :=
  let c0_i32_62 : BitVec 32 := 0#32
  let c1_i32_64 : BitVec 32 := 1#32
  let arg16 : BitVec 32 := Scf.iv c0_i32_62 c1_i32_64 k0_t2
  let c512_i32 : BitVec 32 := 512#32
  let v218 : BitVec 32 := Scalar.muli arg16 c512_i32
  let v219 : Index := Scalar.indexCast v218
  let c0_251 : Index := 0#32
  ![v219.toNat, 0]
def k0_off4 (k0_t2 : Fin k0_t2_loop.trips) : Fin 2 → Nat :=
  let c0_i32_62 : BitVec 32 := 0#32
  let c1_i32_64 : BitVec 32 := 1#32
  let arg16 : BitVec 32 := Scf.iv c0_i32_62 c1_i32_64 k0_t2
  let c512_i32 : BitVec 32 := 512#32
  let v218 : BitVec 32 := Scalar.muli arg16 c512_i32
  let v233 : Index := Scalar.indexCast v218
  let c0_259 : Index := 0#32
  ![v233.toNat, 0]
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_95 : BitVec 32 := 1#32
  let v112 : BitVec 32 := Scalar.muli v13 c1_i32_95
  let v113 : BitVec 32 := Scalar.addi c0_i32_96 v112
  v113.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_98 : BitVec 32 := 1#32
  let v114 : BitVec 32 := Scalar.muli v24 c1_i32_98
  let v115 : BitVec 32 := Scalar.addi c0_i32_99 v114
  v115.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_106 : BitVec 32 := 1#32
  let v116 : BitVec 32 := Scalar.muli v24 c1_i32_106
  let v117 : BitVec 32 := Scalar.addi c0_i32_107 v116
  v117.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_115 : BitVec 32 := 1#32
  let v126 : BitVec 32 := Scalar.muli v24 c1_i32_115
  let v127 : BitVec 32 := Scalar.addi c0_i32_116 v126
  v127.toNat
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_124 : BitVec 32 := 1#32
  let v136 : BitVec 32 := Scalar.muli v13 c1_i32_124
  let v137 : BitVec 32 := Scalar.addi c0_i32_125 v136
  v137.toNat
def k0_dev12 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_133 : BitVec 32 := 1#32
  let v146 : BitVec 32 := Scalar.muli v13 c1_i32_133
  let v147 : BitVec 32 := Scalar.addi c0_i32_134 v146
  v147.toNat
@[reducible] def k0_t3_loop : Scf.Loop 32 :=
  let c0_i32_141 : BitVec 32 := 0#32
  let c8_i32_142 : BitVec 32 := 8#32
  let v156 : BitVec 32 := Scalar.addi c0_i32_141 c8_i32_142
  let c1_i32_143 : BitVec 32 := 1#32
  ⟨c0_i32_141, v156, c1_i32_143⟩
def k0_off5 (k0_t3 : Fin k0_t3_loop.trips) : Fin 2 → Nat :=
  let c0_i32_141 : BitVec 32 := 0#32
  let c1_i32_143 : BitVec 32 := 1#32
  let arg16 : BitVec 32 := Scf.iv c0_i32_141 c1_i32_143 k0_t3
  let c512_i32 : BitVec 32 := 512#32
  let v218 : BitVec 32 := Scalar.muli arg16 c512_i32
  let v219 : Index := Scalar.indexCast v218
  let c0_251 : Index := 0#32
  ![v219.toNat, 0]
def k0_off6 (k0_t3 : Fin k0_t3_loop.trips) : Fin 2 → Nat :=
  let c0_i32_141 : BitVec 32 := 0#32
  let c1_i32_143 : BitVec 32 := 1#32
  let arg16 : BitVec 32 := Scf.iv c0_i32_141 c1_i32_143 k0_t3
  let c512_i32 : BitVec 32 := 512#32
  let v218 : BitVec 32 := Scalar.muli arg16 c512_i32
  let v233 : Index := Scalar.indexCast v218
  let c0_259 : Index := 0#32
  ![v233.toNat, 0]
@[reducible] def k0_t4_loop : Scf.Loop 32 :=
  let c0_i32_147 : BitVec 32 := 0#32
  let c8_i32_148 : BitVec 32 := 8#32
  let v157 : BitVec 32 := Scalar.addi c0_i32_147 c8_i32_148
  let c1_i32_149 : BitVec 32 := 1#32
  ⟨c0_i32_147, v157, c1_i32_149⟩
def k0_off7 (k0_t4 : Fin k0_t4_loop.trips) : Fin 2 → Nat :=
  let c0_i32_147 : BitVec 32 := 0#32
  let c1_i32_149 : BitVec 32 := 1#32
  let arg16 : BitVec 32 := Scf.iv c0_i32_147 c1_i32_149 k0_t4
  let c512_i32 : BitVec 32 := 512#32
  let v218 : BitVec 32 := Scalar.muli arg16 c512_i32
  let v219 : Index := Scalar.indexCast v218
  let c0_251 : Index := 0#32
  ![v219.toNat, 0]
def k0_off8 (k0_t4 : Fin k0_t4_loop.trips) : Fin 2 → Nat :=
  let c0_i32_147 : BitVec 32 := 0#32
  let c1_i32_149 : BitVec 32 := 1#32
  let arg16 : BitVec 32 := Scf.iv c0_i32_147 c1_i32_149 k0_t4
  let c512_i32 : BitVec 32 := 512#32
  let v218 : BitVec 32 := Scalar.muli arg16 c512_i32
  let v233 : Index := Scalar.indexCast v218
  let c0_259 : Index := 0#32
  ![v233.toNat, 0]
@[reducible] def k0_t5_loop : Scf.Loop 32 :=
  let c0_i32_229 : BitVec 32 := 0#32
  let c8_i32_230 : BitVec 32 := 8#32
  let v214 : BitVec 32 := Scalar.addi c0_i32_229 c8_i32_230
  let c1_i32_231 : BitVec 32 := 1#32
  ⟨c0_i32_229, v214, c1_i32_231⟩
def k0_off9 (k0_t5 : Fin k0_t5_loop.trips) : Fin 2 → Nat :=
  let c0_i32_229 : BitVec 32 := 0#32
  let c1_i32_231 : BitVec 32 := 1#32
  let arg16 : BitVec 32 := Scf.iv c0_i32_229 c1_i32_231 k0_t5
  let c512_i32 : BitVec 32 := 512#32
  let v218 : BitVec 32 := Scalar.muli arg16 c512_i32
  let v219 : Index := Scalar.indexCast v218
  let c0_251 : Index := 0#32
  ![v219.toNat, 0]
def k0_off10 (k0_t5 : Fin k0_t5_loop.trips) : Fin 2 → Nat :=
  let c0_i32_229 : BitVec 32 := 0#32
  let c1_i32_231 : BitVec 32 := 1#32
  let arg16 : BitVec 32 := Scf.iv c0_i32_229 c1_i32_231 k0_t5
  let c512_i32 : BitVec 32 := 512#32
  let v218 : BitVec 32 := Scalar.muli arg16 c512_i32
  let v233 : Index := Scalar.indexCast v218
  let c0_259 : Index := 0#32
  ![v233.toNat, 0]
@[reducible] def k0_t6_loop : Scf.Loop 32 :=
  let c0_i32_235 : BitVec 32 := 0#32
  let c8_i32_236 : BitVec 32 := 8#32
  let v215 : BitVec 32 := Scalar.addi c0_i32_235 c8_i32_236
  let c1_i32_237 : BitVec 32 := 1#32
  ⟨c0_i32_235, v215, c1_i32_237⟩
def k0_off11 (k0_t6 : Fin k0_t6_loop.trips) : Fin 2 → Nat :=
  let c0_i32_235 : BitVec 32 := 0#32
  let c1_i32_237 : BitVec 32 := 1#32
  let arg16 : BitVec 32 := Scf.iv c0_i32_235 c1_i32_237 k0_t6
  let c512_i32 : BitVec 32 := 512#32
  let v218 : BitVec 32 := Scalar.muli arg16 c512_i32
  let v219 : Index := Scalar.indexCast v218
  let c0_251 : Index := 0#32
  ![v219.toNat, 0]
def k0_off12 (k0_t6 : Fin k0_t6_loop.trips) : Fin 2 → Nat :=
  let c0_i32_235 : BitVec 32 := 0#32
  let c1_i32_237 : BitVec 32 := 1#32
  let arg16 : BitVec 32 := Scf.iv c0_i32_235 c1_i32_237 k0_t6
  let c512_i32 : BitVec 32 := 512#32
  let v218 : BitVec 32 := Scalar.muli arg16 c512_i32
  let v233 : Index := Scalar.indexCast v218
  let c0_259 : Index := 0#32
  ![v233.toNat, 0]
@[reducible] def k0_t7_loop : Scf.Loop 32 :=
  let c0_i32_241 : BitVec 32 := 0#32
  let c8_i32_242 : BitVec 32 := 8#32
  let v216 : BitVec 32 := Scalar.addi c0_i32_241 c8_i32_242
  let c1_i32_243 : BitVec 32 := 1#32
  ⟨c0_i32_241, v216, c1_i32_243⟩
def k0_off13 (k0_t7 : Fin k0_t7_loop.trips) : Fin 2 → Nat :=
  let c0_i32_241 : BitVec 32 := 0#32
  let c1_i32_243 : BitVec 32 := 1#32
  let arg16 : BitVec 32 := Scf.iv c0_i32_241 c1_i32_243 k0_t7
  let c512_i32 : BitVec 32 := 512#32
  let v218 : BitVec 32 := Scalar.muli arg16 c512_i32
  let v219 : Index := Scalar.indexCast v218
  let c0_251 : Index := 0#32
  ![v219.toNat, 0]
def k0_off14 (k0_t7 : Fin k0_t7_loop.trips) : Fin 2 → Nat :=
  let c0_i32_241 : BitVec 32 := 0#32
  let c1_i32_243 : BitVec 32 := 1#32
  let arg16 : BitVec 32 := Scf.iv c0_i32_241 c1_i32_243 k0_t7
  let c512_i32 : BitVec 32 := 512#32
  let v218 : BitVec 32 := Scalar.muli arg16 c512_i32
  let v233 : Index := Scalar.indexCast v218
  let c0_259 : Index := 0#32
  ![v233.toNat, 0]
@[reducible] def k0_t8_loop : Scf.Loop 32 :=
  let c0_i32_247 : BitVec 32 := 0#32
  let c8_i32_248 : BitVec 32 := 8#32
  let v217 : BitVec 32 := Scalar.addi c0_i32_247 c8_i32_248
  let c1_i32_249 : BitVec 32 := 1#32
  ⟨c0_i32_247, v217, c1_i32_249⟩
def k0_off15 (k0_t8 : Fin k0_t8_loop.trips) : Fin 2 → Nat :=
  let c0_i32_247 : BitVec 32 := 0#32
  let c1_i32_249 : BitVec 32 := 1#32
  let arg16 : BitVec 32 := Scf.iv c0_i32_247 c1_i32_249 k0_t8
  let c512_i32 : BitVec 32 := 512#32
  let v218 : BitVec 32 := Scalar.muli arg16 c512_i32
  let v219 : Index := Scalar.indexCast v218
  let c0_251 : Index := 0#32
  ![v219.toNat, 0]
def k0_off16 (k0_t8 : Fin k0_t8_loop.trips) : Fin 2 → Nat :=
  let c0_i32_247 : BitVec 32 := 0#32
  let c1_i32_249 : BitVec 32 := 1#32
  let arg16 : BitVec 32 := Scf.iv c0_i32_247 c1_i32_249 k0_t8
  let c512_i32 : BitVec 32 := 512#32
  let v218 : BitVec 32 := Scalar.muli arg16 c512_i32
  let v237 : Index := Scalar.indexCast v218
  let c0_260 : Index := 0#32
  ![v237.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 512)⁻¹ : ℝ) : EReal)
  | _ => none
-- ==== ReferenceIdeal.lean ====
abbrev S16384x512 : Shape := ⟨2, ![16384, 512]⟩
abbrev S512x16384 : Shape := ⟨2, ![512, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x16384, .f32⟩
  | .hbm, ⟨4, _⟩ => ⟨S16384x16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Contents.lean ====
/-
  What the buffers of the ring attention hold, written as functions of the arrays on the devices: the two halves of a
  key or value block, the eight row blocks of the queries and of the two accumulators, and what each sweep over the row
  blocks turns the accumulators into.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384

noncomputable section

namespace Cert.RingAttn

open Cert.KernelIdeal Cert.KernelIdeal.Gen
open Idealize.ShloMosaic Idealize.ShloMosaic.ValueIdx

/-! ## Neighbours on the ring -/

set_option backward.proofsInPublic true in
/-- The next device on the ring. -/
def nxt (c : Dev nD) : Dev nD := ⟨(c.val + 1) % 4, by show (c.val + 1) % 4 < 4; omega⟩
set_option backward.proofsInPublic true in
/-- The previous device on the ring. -/
def prv (c : Dev nD) : Dev nD := ⟨(c.val + 3) % 4, by show (c.val + 3) % 4 < 4; omega⟩

theorem nxt_prv (c : Dev nD) : nxt (prv c) = c := by revert c; decide
theorem prv_nxt (c : Dev nD) : prv (nxt c) = c := by revert c; decide

/-- The ring turned by one place forwards, as a bijection of the devices. -/
def turn : Dev nD ≃ Dev nD := ⟨nxt, prv, prv_nxt, nxt_prv⟩

/-! ## Reading and writing a rectangle of a whole buffer -/

section Rect
variable {Val : EltTy → Type}

/-- Writing a rectangle of a whole buffer puts the payload at the rectangle's elements. -/
theorem write_at (b : Ref sig .tc) (r : Rect b.ty.shape) (f : b.ty.Contents Val) (w : r.shape.Idx → Val b.ty.elt)
    (x : r.shape.Idx) : ((Memref.whole b).access r).write Val f w Finset.univ (r.idx x) = w x :=
  (View.write_emb_of_mem (v := (Memref.whole b).access r) f w (Finset.mem_univ x)).trans (cast_eq _ _)

/-- Writing a rectangle of a whole buffer leaves every element outside the rectangle alone. -/
theorem write_off (b : Ref sig .tc) (r : Rect b.ty.shape) (f : b.ty.Contents Val) (w : r.shape.Idx → Val b.ty.elt)
    {i : b.ty.Idx} (h : i ∉ r.set) : ((Memref.whole b).access r).write Val f w Finset.univ i = f i :=
  View.write_of_not_mem (v := (Memref.whole b).access r) f w Finset.univ
    (by rw [View.setOn_univ]; exact fun hi => h (by rwa [show ((Memref.whole b).access r).set = r.set from View.set_slice_whole b r] at hi))

end Rect

/-! ## Eight blocks of 512 rows -/

section Blocks
variable {α : Type} {w : ℕ}

/-- Row block `b` of an array of 4096 rows. -/
def blk (b : Fin 8) (f : (⟨2, ![4096, w]⟩ : Shape).Idx → α) : (⟨2, ![512, w]⟩ : Shape).Idx → α :=
  fun j => f (ix2 ⟨512 * b.val + (j 0).val, by have := idx2_lt0 j; omega⟩ (j 1))

/-- The array whose row block `b` is `g b`. -/
def asm (g : Fin 8 → (⟨2, ![512, w]⟩ : Shape).Idx → α) : (⟨2, ![4096, w]⟩ : Shape).Idx → α :=
  fun i => g ⟨(i 0).val / 512, by have := idx2_lt0 i; omega⟩ (ix2 ⟨(i 0).val % 512, by omega⟩ (i 1))

/-- The array `f` with its first `k` row blocks replaced by those of `g`. -/
def upto (g : Fin 8 → (⟨2, ![512, w]⟩ : Shape).Idx → α) (f : (⟨2, ![4096, w]⟩ : Shape).Idx → α) (k : ℕ) :
    (⟨2, ![4096, w]⟩ : Shape).Idx → α :=
  fun i => if (i 0).val < 512 * k then asm g i else f i

theorem upto_zero (g : Fin 8 → (⟨2, ![512, w]⟩ : Shape).Idx → α) (f : (⟨2, ![4096, w]⟩ : Shape).Idx → α) : upto g f 0 = f := by
  funext i; unfold upto; rw [if_neg (by omega)]

theorem upto_eight (g : Fin 8 → (⟨2, ![512, w]⟩ : Shape).Idx → α) (f : (⟨2, ![4096, w]⟩ : Shape).Idx → α) : upto g f 8 = asm g := by
  funext i; unfold upto; rw [if_pos (by have := idx2_lt0 i; omega)]

/-- A block of the assembled array is the block it was assembled from. -/
theorem blk_asm (g : Fin 8 → (⟨2, ![512, w]⟩ : Shape).Idx → α) (b : Fin 8) : blk b (asm g) = g b := by
  funext j
  have h0 := idx2_lt0 j
  show g ⟨(512 * b.val + (j 0).val) / 512, _⟩ (ix2 ⟨(512 * b.val + (j 0).val) % 512, _⟩ (j 1)) = g b j
  have e1 : (⟨(512 * b.val + (j 0).val) / 512, by omega⟩ : Fin 8) = b := Fin.ext (by show (512 * b.val + (j 0).val) / 512 = b.val; omega)
  rw [e1]
  congr 1
  rw [eq_ix2 j]
  congr 1
  exact Fin.ext (by show (512 * b.val + (j 0).val) % 512 = (j 0).val; omega)

/-- Reading the rectangle of row block `k` of an array whose first `k` blocks were replaced reads the old block. -/
theorem read_upto (g : Fin 8 → (⟨2, ![512, w]⟩ : Shape).Idx → α) (f : (⟨2, ![4096, w]⟩ : Shape).Idx → α) (k : Fin 8)
    (o : Fin 2 → ℕ) (ho : o = ![512 * k.val, 0]) (inb) :
    (fun x => upto g f k.val ((Rect.unit (s := ⟨2, ![4096, w]⟩) o (⟨2, ![512, w]⟩ : Shape).size inb).idx x)) = blk k f := by
  subst ho
  funext x
  have h0 : (x 0).val < 512 := (x 0).isLt
  have e : (Rect.unit (s := ⟨2, ![4096, w]⟩) ![512 * k.val, 0] (⟨2, ![512, w]⟩ : Shape).size inb).idx x
      = ix2 ⟨512 * k.val + (x 0).val, by omega⟩ (x 1) := by
    funext a
    match a with
    | ⟨0, _⟩ => exact Fin.ext (by show 512 * k.val + 1 * (x 0).val = 512 * k.val + (x 0).val; omega)
    | ⟨1, _⟩ => exact Fin.ext (by show 0 + 1 * (x 1).val = (x 1).val; omega)
  show upto g f k.val _ = _
  rw [e]
  unfold upto
  rw [if_neg (by show ¬ (512 * k.val + (x 0).val < 512 * k.val); omega)]
  rfl

/-- Reading the rectangle of row block `k` reads row block `k`. -/
theorem read_blk (f : (⟨2, ![4096, w]⟩ : Shape).Idx → α) (k : Fin 8) (o : Fin 2 → ℕ) (ho : o = ![512 * k.val, 0]) (inb) :
    (fun x => f ((Rect.unit (s := ⟨2, ![4096, w]⟩) o (⟨2, ![512, w]⟩ : Shape).size inb).idx x)) = blk k f := by
  have h := read_upto (fun _ => blk k f) f k o ho inb
  subst ho
  refine Eq.trans (funext fun x => ?_) h
  unfold upto
  rw [if_neg]
  show ¬ (512 * k.val + 1 * (x 0).val < 512 * k.val)
  omega

/-- An array that holds block `k` of `g` on row block `k` and is otherwise `f` with its first `k` blocks replaced is
    `f` with its first `k + 1` blocks replaced. -/
theorem upto_succ (g : Fin 8 → (⟨2, ![512, w]⟩ : Shape).Idx → α) (f h : (⟨2, ![4096, w]⟩ : Shape).Idx → α) (k : Fin 8)
    (o : Fin 2 → ℕ) (ho : o = ![512 * k.val, 0]) (inb)
    (hin : ∀ x, h ((Rect.unit (s := ⟨2, ![4096, w]⟩) o (⟨2, ![512, w]⟩ : Shape).size inb).idx x) = g k x)
    (hout : ∀ i, i ∉ (Rect.unit (s := ⟨2, ![4096, w]⟩) o (⟨2, ![512, w]⟩ : Shape).size inb).set → h i = upto g f k.val i) :
    h = upto g f (k.val + 1) := by
  subst ho
  funext i
  have hi := idx2_lt0 i
  by_cases hm : i ∈ (Rect.unit (s := ⟨2, ![4096, w]⟩) ![512 * k.val, 0] (⟨2, ![512, w]⟩ : Shape).size inb).set
  · have hb := (Rect.mem_set_unit.mp hm) 0
    have hlo : 512 * k.val ≤ (i 0).val := hb.1
    have hhi : (i 0).val < 512 * k.val + 512 := hb.2
    have e : (Rect.unit (s := ⟨2, ![4096, w]⟩) ![512 * k.val, 0] (⟨2, ![512, w]⟩ : Shape).size inb).idx
        (ix2 ⟨(i 0).val % 512, by omega⟩ (i 1)) = i := by
      funext a
      match a with
      | ⟨0, _⟩ => exact Fin.ext (by show 512 * k.val + 1 * ((i 0).val % 512) = (i 0).val; omega)
      | ⟨1, _⟩ => exact Fin.ext (by show 0 + 1 * (i 1).val = (i 1).val; omega)
    have hx := hin (ix2 ⟨(i 0).val % 512, by omega⟩ (i 1))
    rw [e] at hx
    rw [hx]
    unfold upto
    rw [if_pos (by omega)]
    show g k _ = g ⟨(i 0).val / 512, _⟩ _
    congr 1
    exact Fin.ext (by show k.val = (i 0).val / 512; omega)
  · rw [hout i hm]
    have hn : ¬ (512 * k.val ≤ (i 0).val ∧ (i 0).val < 512 * k.val + 512) := fun hc => hm (by
      refine Rect.mem_set_unit.mpr fun a => ?_
      match a with
      | ⟨0, _⟩ => exact hc
      | ⟨1, _⟩ => exact ⟨Nat.zero_le _, by show (i 1).val < 0 + w; have := idx2_lt1 i; omega⟩)
    unfold upto
    by_cases h1 : (i 0).val < 512 * k.val
    · rw [if_pos h1, if_pos (by omega)]
    · rw [if_neg h1, if_neg (by omega)]

end Blocks

/-! ## The two halves of a key or value block -/

section Halves
variable {F : FTy → Type} [FloatOps F] [Named F]

/-- Rows `2048 h … 2048 h + 2047` of a block. -/
def rows (h : Fin 2) (x : Vec F S4096x512 .f32) : Vec F S2048x512 .f32 :=
  fun j => x (ix2 ⟨2048 * h.val + (j 0).val, by have := idx2_lt0 j; omega⟩ (j 1))

/-- A key or value block as the kernel keeps it: two halves, each rounded to bf16. -/
def packed (x : Vec F S4096x512 .f32) : Vec F S2x2048x512 .bf16 :=
  fun i => k0_pay1 (rows (i 0) x) (ix3 0 (i 1) (i 2))

/-- Half `h` of a packed block. -/
def half (h : Fin 2) (y : Vec F S2x2048x512 .bf16) : Vec F S1x2048x512 .bf16 :=
  fun j => y (ix3 h (j 1) (j 2))

theorem half_packed (h : Fin 2) (x : Vec F S4096x512 .f32) : half h (packed x) = k0_pay1 (rows h x) := by
  funext j
  show k0_pay1 (rows h x) (ix3 0 (j 1) (j 2)) = _
  congr 1
  rw [eq_ix3 j]
  congr 1
  exact (Fin.eq_zero (j 0 : Fin 1)).symm

/-- The elements of half `h`. -/
def H (h : Fin 2) : Finset S2x2048x512.Idx := Finset.univ.filter fun i => (i 0).val = h.val

theorem mem_H {h : Fin 2} {i : S2x2048x512.Idx} : i ∈ H h ↔ i 0 = h := by
  rw [H, Finset.mem_filter]
  exact ⟨fun hi => Fin.ext hi.2, fun hi => ⟨Finset.mem_univ _, congrArg Fin.val hi⟩⟩

/-- The rectangle of half `h` covers exactly the elements of half `h`. -/
theorem set_half (h : Fin 2) (o : Fin 3 → ℕ) (ho : o = ![h.val, 0, 0]) (inb) :
    (Rect.unit (s := S2x2048x512) o S1x2048x512.size inb).set = H h := by
  subst ho
  ext i
  rw [Rect.mem_set_unit, mem_H]
  constructor
  · intro hi
    have h0 := hi 0
    have hlo : h.val ≤ (i 0).val := h0.1
    have hhi : (i 0).val < h.val + 1 := h0.2
    exact Fin.ext (by omega)
  · intro hi a
    match a with
    | ⟨0, _⟩ => exact ⟨by show h.val ≤ (i 0).val; rw [hi], by show (i 0).val < h.val + 1; rw [hi]; omega⟩
    | ⟨1, _⟩ => exact ⟨Nat.zero_le _, by show (i 1).val < 0 + 2048; have : (i 1).val < 2048 := (i 1).isLt; omega⟩
    | ⟨2, _⟩ => exact ⟨Nat.zero_le _, by show (i 2).val < 0 + 512; have : (i 2).val < 512 := (i 2).isLt; omega⟩

/-- The index a position of half `h`'s rectangle names. -/
theorem idx_half (h : Fin 2) (o : Fin 3 → ℕ) (ho : o = ![h.val, 0, 0]) (inb) (x : S1x2048x512.Idx) :
    (Rect.unit (s := S2x2048x512) o S1x2048x512.size inb).idx x = ix3 h (x 1) (x 2) := by
  subst ho
  funext a
  have h0 : (x 0).val < 1 := (x 0).isLt
  match a with
  | ⟨0, _⟩ => exact Fin.ext (by show h.val + 1 * (x 0).val = h.val; omega)
  | ⟨1, _⟩ => exact Fin.ext (by show 0 + 1 * (x 1).val = (x 1).val; omega)
  | ⟨2, _⟩ => exact Fin.ext (by show 0 + 1 * (x 2).val = (x 2).val; omega)

/-- Reading half `h`'s rectangle reads half `h`. -/
theorem read_half (h : Fin 2) (o : Fin 3 → ℕ) (ho : o = ![h.val, 0, 0]) (inb) (y : Vec F S2x2048x512 .bf16) :
    (fun x => y ((Rect.unit (s := S2x2048x512) o S1x2048x512.size inb).idx x)) = half h y := by
  funext x
  show y _ = y _
  rw [idx_half h o ho inb x]
  rfl

/-- Reading rows `2048 h …` of an array by their rectangle. -/
theorem read_rows (h : Fin 2) (o : Fin 2 → ℕ) (ho : o = ![2048 * h.val, 0]) (inb) (x : Vec F S4096x512 .f32) :
    (fun j => x ((Rect.unit (s := S4096x512) o S2048x512.size inb).idx j)) = rows h x := by
  subst ho
  funext j
  show x _ = x _
  congr 1
  funext a
  match a with
  | ⟨0, _⟩ => exact Fin.ext (by show 2048 * h.val + 1 * (j 0).val = 2048 * h.val + (j 0).val; omega)
  | ⟨1, _⟩ => exact Fin.ext (by show 0 + 1 * (j 1).val = (j 1).val; omega)

/-- An array that holds the first rounded half on half 0 and the second on half 1 is the packed block. -/
theorem packed_of_halves (x : Vec F S4096x512 .f32) (y : Vec F S2x2048x512 .bf16)
    (h0 : ∀ j, y (ix3 0 (j 1) (j 2)) = k0_pay1 (rows 0 x) j) (h1 : ∀ j, y (ix3 1 (j 1) (j 2)) = k0_pay1 (rows 1 x) j) :
    y = packed x := by
  have key : ∀ (h : Fin 2) (a : Fin 2048) (b : Fin 512), y (ix3 h a b) = k0_pay1 (rows h x) (ix3 0 a b) := by
    intro h a b
    match h with
    | ⟨0, _⟩ => exact h0 (ix3 0 a b)
    | ⟨1, _⟩ => exact h1 (ix3 0 a b)
  funext i
  rw [eq_ix3 i]
  exact key (i 0) (i 1) (i 2)

end Halves

/-! ## What the sweeps compute -/

section Sweeps
variable {F : FTy → Type} [FloatOps F] [Named F]

/-- The scaled queries, rounded to bf16. -/
def qbf (x : Vec F S4096x512 .f32) : Vec F S4096x512 .bf16 := k0_pay5 x

/-- The two accumulators: the weighted sums of the values and the sums of the weights. -/
abbrev Acc (F : FTy → Type) [FloatOps F] [Named F] : Type := Vec F S4096x512 .f32 × Vec F S4096x1 .f32

/-- The first sweep: the accumulators after one half of the keys and values. -/
def start0 (q : Vec F S4096x512 .bf16) (kk vv : Vec F S1x2048x512 .bf16) : Acc F :=
  (asm fun b => k0_pay7 (blk b q) kk vv, asm fun b => k0_pay8 (blk b q) kk)

/-- A middle sweep: the accumulators after one more half. -/
def more (q : Vec F S4096x512 .bf16) (kk vv : Vec F S1x2048x512 .bf16) (a : Acc F) : Acc F :=
  (asm fun b => k0_pay11 (blk b q) kk vv (blk b a.1), asm fun b => k0_pay10 (blk b q) kk (blk b a.2))

/-- The last sweep: the last half is added and the quotient taken. -/
def finish (q : Vec F S4096x512 .bf16) (kk vv : Vec F S1x2048x512 .bf16) (a : Acc F) : Vec F S4096x512 .f32 :=
  asm fun b => k0_pay27 (blk b q) kk vv (blk b a.1) (blk b a.2)

end Sweeps

end Cert.RingAttn
-- ==== Proof.Loops.lean ====
/-
  The eight sweeps over the row blocks, run: one rule for the first sweep, one for a middle sweep, one for the last.
  Each takes the queries, one half of the keys and values (at any share of it) and the accumulators, and gives the
  accumulators back holding what `start0`, `more` and `finish` say.
-/
module

public import proofs.«01_k».proof.Proof.Contents

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The resource algebra -/

/-- The marks of the ring's cells. -/
abbrev UB : Type := URounds (GSem nD τ sig) Bool
/-- The marks of the whole program: the launch's and the ring's. -/
abbrev UU : Type := UR sig nD τ × UB

variable {F : FTy → Type} [FloatOps F] [Named F]

local notation "𝕄" => MT nD τ sig Unit (Elt F) ℕ UU ℕ

abbrev 𝒱₀ : Variants := Variants.none

/-! ## The sweeps' bodies -/

section Bodies
variable (lp : Scf.Loop 32) (o1 o2 : Fin lp.trips → Fin 2 → ℕ)
  (i1 : ∀ k a, o1 k a + S512x512.size a ≤ S4096x512.size a) (i2 : ∀ k a, o2 k a + S512x1.size a ≤ S4096x1.size a)
  (oh : Fin 3 → ℕ) (ih : ∀ a, oh a + S1x2048x512.size a ≤ S2x2048x512.size a)
  (kM vM : Memref sig .tc .vmem S2x2048x512 .bf16)

/-- One row block of the first sweep. -/
def firstBody : Fin lp.trips → Unit → Prog (TpuEff nD τ sig (Elt F) Λ₀ .tc) Unit := fun k _ => do
  let a : Vec F S512x512 .bf16 ← Prog.lift (.load (Memref.whole cc0_scratch0) (Rect.unit (s := S4096x512) (o1 k) S512x512.size (i1 k)).toLoadRect (View.loadsAt_vmem h_S512x512))
  let x : Vec F S1x2048x512 .bf16 ← Prog.lift (.load kM (Rect.unit (s := S2x2048x512) oh S1x2048x512.size ih).toLoadRect (View.loadsAt_vmem h_S1x2048x512))
  let y : Vec F S1x2048x512 .bf16 ← Prog.lift (.load vM (Rect.unit (s := S2x2048x512) oh S1x2048x512.size ih).toLoadRect (View.loadsAt_vmem h_S1x2048x512))
  let _ : Vec F S512x1 .f32 ← Prog.lift (.load (Memref.whole cc0_scratch7) (Rect.unit (s := S4096x1) (o2 k) S512x1.size (i2 k)).toLoadRect (View.loadsAt_vmem h_S512x1))
  Prog.lift (.store (Memref.whole cc0_scratch7) (Rect.unit (s := S4096x1) (o2 k) S512x1.size (i2 k)) (k0_pay8 a x) Finset.univ (View.stores_vmem_bits_univ h_S512x1 rfl) (.inl rfl))
  let _ : Vec F S512x512 .f32 ← Prog.lift (.load (Memref.whole cc0_stg0_0) (Rect.unit (s := S4096x512) (o1 k) S512x512.size (i1 k)).toLoadRect (View.loadsAt_vmem h_S512x512))
  Prog.lift (.store (Memref.whole cc0_stg0_0) (Rect.unit (s := S4096x512) (o1 k) S512x512.size (i1 k)) (k0_pay7 a x y) Finset.univ (View.stores_vmem_bits_univ h_S512x512 rfl) (.inl rfl))
  pure ⟨⟩

/-- One row block of a middle sweep. -/
def moreBody : Fin lp.trips → Unit → Prog (TpuEff nD τ sig (Elt F) Λ₀ .tc) Unit := fun k _ => do
  let a : Vec F S512x512 .bf16 ← Prog.lift (.load (Memref.whole cc0_scratch0) (Rect.unit (s := S4096x512) (o1 k) S512x512.size (i1 k)).toLoadRect (View.loadsAt_vmem h_S512x512))
  let x : Vec F S1x2048x512 .bf16 ← Prog.lift (.load kM (Rect.unit (s := S2x2048x512) oh S1x2048x512.size ih).toLoadRect (View.loadsAt_vmem h_S1x2048x512))
  let y : Vec F S1x2048x512 .bf16 ← Prog.lift (.load vM (Rect.unit (s := S2x2048x512) oh S1x2048x512.size ih).toLoadRect (View.loadsAt_vmem h_S1x2048x512))
  let z : Vec F S512x1 .f32 ← Prog.lift (.load (Memref.whole cc0_scratch7) (Rect.unit (s := S4096x1) (o2 k) S512x1.size (i2 k)).toLoadRect (View.loadsAt_vmem h_S512x1))
  let _ : Vec F S512x1 .f32 ← Prog.lift (.load (Memref.whole cc0_scratch7) (Rect.unit (s := S4096x1) (o2 k) S512x1.size (i2 k)).toLoadRect (View.loadsAt_vmem h_S512x1))
  Prog.lift (.store (Memref.whole cc0_scratch7) (Rect.unit (s := S4096x1) (o2 k) S512x1.size (i2 k)) (k0_pay10 a x z) Finset.univ (View.stores_vmem_bits_univ h_S512x1 rfl) (.inl rfl))
  let o : Vec F S512x512 .f32 ← Prog.lift (.load (Memref.whole cc0_stg0_0) (Rect.unit (s := S4096x512) (o1 k) S512x512.size (i1 k)).toLoadRect (View.loadsAt_vmem h_S512x512))
  let _ : Vec F S512x512 .f32 ← Prog.lift (.load (Memref.whole cc0_stg0_0) (Rect.unit (s := S4096x512) (o1 k) S512x512.size (i1 k)).toLoadRect (View.loadsAt_vmem h_S512x512))
  Prog.lift (.store (Memref.whole cc0_stg0_0) (Rect.unit (s := S4096x512) (o1 k) S512x512.size (i1 k)) (k0_pay11 a x y o) Finset.univ (View.stores_vmem_bits_univ h_S512x512 rfl) (.inl rfl))
  pure ⟨⟩

/-- One row block of the last sweep. -/
def lastBody : Fin lp.trips → Unit → Prog (TpuEff nD τ sig (Elt F) Λ₀ .tc) Unit := fun k _ => do
  let a : Vec F S512x512 .bf16 ← Prog.lift (.load (Memref.whole cc0_scratch0) (Rect.unit (s := S4096x512) (o1 k) S512x512.size (i1 k)).toLoadRect (View.loadsAt_vmem h_S512x512))
  let x : Vec F S1x2048x512 .bf16 ← Prog.lift (.load kM (Rect.unit (s := S2x2048x512) oh S1x2048x512.size ih).toLoadRect (View.loadsAt_vmem h_S1x2048x512))
  let y : Vec F S1x2048x512 .bf16 ← Prog.lift (.load vM (Rect.unit (s := S2x2048x512) oh S1x2048x512.size ih).toLoadRect (View.loadsAt_vmem h_S1x2048x512))
  let o : Vec F S512x512 .f32 ← Prog.lift (.load (Memref.whole cc0_stg0_0) (Rect.unit (s := S4096x512) (o1 k) S512x512.size (i1 k)).toLoadRect (View.loadsAt_vmem h_S512x512))
  let z : Vec F S512x1 .f32 ← Prog.lift (.load (Memref.whole cc0_scratch7) (Rect.unit (s := S4096x1) (o2 k) S512x1.size (i2 k)).toLoadRect (View.loadsAt_vmem h_S512x1))
  let _ : Vec F S512x512 .f32 ← Prog.lift (.load (Memref.whole cc0_stg0_0) (Rect.unit (s := S4096x512) (o1 k) S512x512.size (i1 k)).toLoadRect (View.loadsAt_vmem h_S512x512))
  Prog.lift (.store (Memref.whole cc0_stg0_0) (Rect.unit (s := S4096x512) (o1 k) S512x512.size (i1 k)) (k0_pay27 a x y o z) Finset.univ (View.stores_vmem_bits_univ h_S512x512 rfl) (.inl rfl))
  pure ⟨⟩

end Bodies

/-! ## The sweeps run -/

section Rules
variable (c : Dev nD) (lp : Scf.Loop 32) (hok : lp.OK) (ht : lp.trips = 8) (o1 o2 : Fin lp.trips → Fin 2 → ℕ)
  (i1 : ∀ k a, o1 k a + S512x512.size a ≤ S4096x512.size a) (i2 : ∀ k a, o2 k a + S512x1.size a ≤ S4096x1.size a)
  (h1 : ∀ k, o1 k = ![512 * k.val, 0]) (h2 : ∀ k, o2 k = ![512 * k.val, 0])
  (oh : Fin 3 → ℕ) (ih : ∀ a, oh a + S1x2048x512.size a ≤ S2x2048x512.size a)
  (kM vM : Memref sig .tc .vmem S2x2048x512 .bf16) (kk vv : Vec F S1x2048x512 .bf16)
  {Sk : Finset (Idx (kM.view.loc (c : Thread nD τ)))} {Sv : Finset (Idx (vM.view.loc (c : Thread nD τ)))}
  {pk pv : PosShare TreeShare} {fk : Buf (Elt F) (kM.view.loc (c : Thread nD τ))} {fv : Buf (Elt F) (vM.view.loc (c : Thread nD τ))}
  (hSk : kM.view.setOn (Rect.unit (s := S2x2048x512) oh S1x2048x512.size ih).toLoadRect.set ⊆ Sk)
  (hSv : vM.view.setOn (Rect.unit (s := S2x2048x512) oh S1x2048x512.size ih).toLoadRect.set ⊆ Sv)
  (hrk : kM.view.readAt (Elt F) (Rect.unit (s := S2x2048x512) oh S1x2048x512.size ih).toLoadRect fk = kk)
  (hrv : vM.view.readAt (Elt F) (Rect.unit (s := S2x2048x512) oh S1x2048x512.size ih).toLoadRect fv = vv)

/-- What a sweep holds: the queries, the half of the keys, the half of the values, the sums of the weights and the
    weighted sums. -/
def sweepHeld (q : Vec F S4096x512 .bf16) (f : Vec F S4096x512 .f32) (l : Vec F S4096x1 .f32) : sProp 𝕄 :=
  iprop(((c : Thread nD τ).loc cc0_scratch0 ↦{fullShare} q) ∗ (kM.view.loc (c : Thread nD τ) ↦[Sk]{pk} fk) ∗ (vM.view.loc (c : Thread nD τ) ↦[Sv]{pv} fv)
    ∗ ((c : Thread nD τ).loc cc0_scratch7 ↦{fullShare} l) ∗ ((c : Thread nD τ).loc cc0_stg0_0 ↦{fullShare} f))

include hSk hSv hrk hrv h1 h2 ht
/-- THE FIRST SWEEP: from any accumulators, `start0` of the half read. -/
theorem wp_first (q : Vec F S4096x512 .bf16) (f : Vec F S4096x512 .f32) (l : Vec F S4096x1 .f32) {Q : Unit → sProp 𝕄} :
    iprop(sweepHeld c kM vM (Sk := Sk) (Sv := Sv) (pk := pk) (pv := pv) (fk := fk) (fv := fv) q f l
      ∗ (sweepHeld c kM vM (Sk := Sk) (Sv := Sv) (pk := pk) (pv := pv) (fk := fk) (fv := fv) q (start0 q kk vv).1 (start0 q kk vv).2 -∗ Q ()))
      ⊢ wp frame (wpE (defs₀ (F := F)) 𝒱₀ (c : Thread nD τ) none) Set.univ
          (Scf.Loop.for lp hok () (firstBody (F := F) lp o1 o2 i1 i2 oh ih kM vM)) Q := by
  have key := Scf.wp_for frame (wpE (defs₀ (F := F)) 𝒱₀ (c : Thread nD τ) none) Set.univ lp.lb lp.ub lp.st hok ()
    (firstBody (F := F) lp o1 o2 i1 i2 oh ih kM vM)
    (fun k _ => sweepHeld c kM vM (Sk := Sk) (Sv := Sv) (pk := pk) (pv := pv) (fk := fk) (fv := fv) q
      (upto (fun b => k0_pay7 (blk b q) kk vv) f k) (upto (fun b => k0_pay8 (blk b q) kk) l k)) (Q := Q) ?_
  · refine BIBase.Entails.trans ?_ key
    rw [show Scf.trips lp.lb lp.ub lp.st = 8 from ht]
    simp only [upto_zero, upto_eight]
    iintro ⟨H, HK⟩
    isplitl [H]
    · iexact H
    iintro %acc H
    cases acc
    iapply HK
    iexact H
  · intro k acc
    have hk : k.val < 8 := lt_of_lt_of_eq k.isLt ht
    unfold sweepHeld firstBody
    simp only [Prog.lift, Prog.bind_op, Prog.bind_ret, Prog.pure_eq_ret]
    iintro ⟨Hq, Hk, Hv, Hl, Ho⟩
    iapply (wp_load 𝒱₀ (c : Thread nD τ) none Set.univ (m := Memref.whole cc0_scratch0) (Finset.subset_univ _)) $$ Hq
    iintro Hq
    iapply (wp_load 𝒱₀ (c : Thread nD τ) none Set.univ (m := kM) hSk) $$ Hk
    iintro Hk
    iapply (wp_load 𝒱₀ (c : Thread nD τ) none Set.univ (m := vM) hSv) $$ Hv
    iintro Hv
    iapply (wp_load 𝒱₀ (c : Thread nD τ) none Set.univ (m := Memref.whole cc0_scratch7) (Finset.subset_univ _)) $$ Hl
    iintro Hl
    iapply (wp_store 𝒱₀ (c : Thread nD τ) none Set.univ (m := Memref.whole cc0_scratch7) (r := Rect.unit (s := S4096x1) (o2 k) S512x1.size (i2 k)) (Finset.subset_univ _)) $$ Hl
    iintro Hl
    iapply (wp_load 𝒱₀ (c : Thread nD τ) none Set.univ (m := Memref.whole cc0_stg0_0) (Finset.subset_univ _)) $$ Ho
    iintro Ho
    iapply (wp_store 𝒱₀ (c : Thread nD τ) none Set.univ (m := Memref.whole cc0_stg0_0) (r := Rect.unit (s := S4096x512) (o1 k) S512x512.size (i1 k)) (Finset.subset_univ _)) $$ Ho
    iintro Ho
    rw [wp_ret]
    imodintro
    have eq : (Memref.whole cc0_scratch0).view.readAt (Elt F) (Rect.unit (s := S4096x512) (o1 k) S512x512.size (i1 k)).toLoadRect q = blk ⟨k.val, hk⟩ q :=
      read_blk q ⟨k.val, hk⟩ (o1 k) (h1 k) (i1 k)
    rw [hrk, hrv, eq]
    have e1 := upto_succ (fun b => k0_pay7 (blk b q) kk vv) f _ ⟨k.val, hk⟩ (o1 k) (h1 k) (i1 k)
      (write_at cc0_stg0_0 (Rect.unit (s := S4096x512) (o1 k) S512x512.size (i1 k)) (upto (fun b => k0_pay7 (blk b q) kk vv) f k.val) (k0_pay7 (blk ⟨k.val, hk⟩ q) kk vv))
      (fun i hi => write_off cc0_stg0_0 _ _ _ hi)
    have e2 := upto_succ (fun b => k0_pay8 (blk b q) kk) l _ ⟨k.val, hk⟩ (o2 k) (h2 k) (i2 k)
      (write_at cc0_scratch7 (Rect.unit (s := S4096x1) (o2 k) S512x1.size (i2 k)) (upto (fun b => k0_pay8 (blk b q) kk) l k.val) (k0_pay8 (blk ⟨k.val, hk⟩ q) kk))
      (fun i hi => write_off cc0_scratch7 _ _ _ hi)
    rw [← e1, ← e2]
    isplitl [Hq]; · iexact Hq
    isplitl [Hk]; · iexact Hk
    isplitl [Hv]; · iexact Hv
    isplitl [Hl]; · iexact Hl
    iexact Ho

include hSk hSv hrk hrv h1 h2 ht
/-- A MIDDLE SWEEP: the half read is added to the accumulators. -/
theorem wp_more (q : Vec F S4096x512 .bf16) (f : Vec F S4096x512 .f32) (l : Vec F S4096x1 .f32) {Q : Unit → sProp 𝕄} :
    iprop(sweepHeld c kM vM (Sk := Sk) (Sv := Sv) (pk := pk) (pv := pv) (fk := fk) (fv := fv) q f l
      ∗ (sweepHeld c kM vM (Sk := Sk) (Sv := Sv) (pk := pk) (pv := pv) (fk := fk) (fv := fv) q (more q kk vv (f, l)).1 (more q kk vv (f, l)).2 -∗ Q ()))
      ⊢ wp frame (wpE (defs₀ (F := F)) 𝒱₀ (c : Thread nD τ) none) Set.univ
          (Scf.Loop.for lp hok () (moreBody (F := F) lp o1 o2 i1 i2 oh ih kM vM)) Q := by
  have key := Scf.wp_for frame (wpE (defs₀ (F := F)) 𝒱₀ (c : Thread nD τ) none) Set.univ lp.lb lp.ub lp.st hok ()
    (moreBody (F := F) lp o1 o2 i1 i2 oh ih kM vM)
    (fun k _ => sweepHeld c kM vM (Sk := Sk) (Sv := Sv) (pk := pk) (pv := pv) (fk := fk) (fv := fv) q
      (upto (fun b => k0_pay11 (blk b q) kk vv (blk b f)) f k) (upto (fun b => k0_pay10 (blk b q) kk (blk b l)) l k)) (Q := Q) ?_
  · refine BIBase.Entails.trans ?_ key
    rw [show Scf.trips lp.lb lp.ub lp.st = 8 from ht]
    simp only [upto_zero, upto_eight]
    iintro ⟨H, HK⟩
    isplitl [H]
    · iexact H
    iintro %acc H
    cases acc
    iapply HK
    iexact H
  · intro k acc
    have hk : k.val < 8 := lt_of_lt_of_eq k.isLt ht
    unfold sweepHeld moreBody
    simp only [Prog.lift, Prog.bind_op, Prog.bind_ret, Prog.pure_eq_ret]
    iintro ⟨Hq, Hk, Hv, Hl, Ho⟩
    iapply (wp_load 𝒱₀ (c : Thread nD τ) none Set.univ (m := Memref.whole cc0_scratch0) (Finset.subset_univ _)) $$ Hq
    iintro Hq
    iapply (wp_load 𝒱₀ (c : Thread nD τ) none Set.univ (m := kM) hSk) $$ Hk
    iintro Hk
    iapply (wp_load 𝒱₀ (c : Thread nD τ) none Set.univ (m := vM) hSv) $$ Hv
    iintro Hv
    iapply (wp_load 𝒱₀ (c : Thread nD τ) none Set.univ (m := Memref.whole cc0_scratch7) (Finset.subset_univ _)) $$ Hl
    iintro Hl
    iapply (wp_load 𝒱₀ (c : Thread nD τ) none Set.univ (m := Memref.whole cc0_scratch7) (Finset.subset_univ _)) $$ Hl
    iintro Hl
    iapply (wp_store 𝒱₀ (c : Thread nD τ) none Set.univ (m := Memref.whole cc0_scratch7) (r := Rect.unit (s := S4096x1) (o2 k) S512x1.size (i2 k)) (Finset.subset_univ _)) $$ Hl
    iintro Hl
    iapply (wp_load 𝒱₀ (c : Thread nD τ) none Set.univ (m := Memref.whole cc0_stg0_0) (Finset.subset_univ _)) $$ Ho
    iintro Ho
    iapply (wp_load 𝒱₀ (c : Thread nD τ) none Set.univ (m := Memref.whole cc0_stg0_0) (Finset.subset_univ _)) $$ Ho
    iintro Ho
    iapply (wp_store 𝒱₀ (c : Thread nD τ) none Set.univ (m := Memref.whole cc0_stg0_0) (r := Rect.unit (s := S4096x512) (o1 k) S512x512.size (i1 k)) (Finset.subset_univ _)) $$ Ho
    iintro Ho
    rw [wp_ret]
    imodintro
    have eq : (Memref.whole cc0_scratch0).view.readAt (Elt F) (Rect.unit (s := S4096x512) (o1 k) S512x512.size (i1 k)).toLoadRect q = blk ⟨k.val, hk⟩ q :=
      read_blk q ⟨k.val, hk⟩ (o1 k) (h1 k) (i1 k)
    have eo : (Memref.whole cc0_stg0_0).view.readAt (Elt F) (Rect.unit (s := S4096x512) (o1 k) S512x512.size (i1 k)).toLoadRect
        (upto (fun b => k0_pay11 (blk b q) kk vv (blk b f)) f k.val) = blk ⟨k.val, hk⟩ f :=
      read_upto (fun b => k0_pay11 (blk b q) kk vv (blk b f)) f ⟨k.val, hk⟩ (o1 k) (h1 k) (i1 k)
    have el : (Memref.whole cc0_scratch7).view.readAt (Elt F) (Rect.unit (s := S4096x1) (o2 k) S512x1.size (i2 k)).toLoadRect
        (upto (fun b => k0_pay10 (blk b q) kk (blk b l)) l k.val) = blk ⟨k.val, hk⟩ l :=
      read_upto (fun b => k0_pay10 (blk b q) kk (blk b l)) l ⟨k.val, hk⟩ (o2 k) (h2 k) (i2 k)
    rw [hrk, hrv, eq, eo, el]
    have e1 := upto_succ (fun b => k0_pay11 (blk b q) kk vv (blk b f)) f _ ⟨k.val, hk⟩ (o1 k) (h1 k) (i1 k)
      (write_at cc0_stg0_0 (Rect.unit (s := S4096x512) (o1 k) S512x512.size (i1 k)) (upto (fun b => k0_pay11 (blk b q) kk vv (blk b f)) f k.val) ((fun b => k0_pay11 (blk b q) kk vv (blk b f)) ⟨k.val, hk⟩))
      (fun i hi => write_off cc0_stg0_0 _ _ _ hi)
    have e2 := upto_succ (fun b => k0_pay10 (blk b q) kk (blk b l)) l _ ⟨k.val, hk⟩ (o2 k) (h2 k) (i2 k)
      (write_at cc0_scratch7 (Rect.unit (s := S4096x1) (o2 k) S512x1.size (i2 k)) (upto (fun b => k0_pay10 (blk b q) kk (blk b l)) l k.val) ((fun b => k0_pay10 (blk b q) kk (blk b l)) ⟨k.val, hk⟩))
      (fun i hi => write_off cc0_scratch7 _ _ _ hi)
    rw [← e1, ← e2]
    isplitl [Hq]; · iexact Hq
    isplitl [Hk]; · iexact Hk
    isplitl [Hv]; · iexact Hv
    isplitl [Hl]; · iexact Hl
    iexact Ho

include hSk hSv hrk hrv h1 h2 ht
/-- THE LAST SWEEP: the half read is added and the quotient written. -/
theorem wp_finish (q : Vec F S4096x512 .bf16) (f : Vec F S4096x512 .f32) (l : Vec F S4096x1 .f32) {Q : Unit → sProp 𝕄} :
    iprop(sweepHeld c kM vM (Sk := Sk) (Sv := Sv) (pk := pk) (pv := pv) (fk := fk) (fv := fv) q f l
      ∗ (sweepHeld c kM vM (Sk := Sk) (Sv := Sv) (pk := pk) (pv := pv) (fk := fk) (fv := fv) q (finish q kk vv (f, l)) l -∗ Q ()))
      ⊢ wp frame (wpE (defs₀ (F := F)) 𝒱₀ (c : Thread nD τ) none) Set.univ
          (Scf.Loop.for lp hok () (lastBody (F := F) lp o1 o2 i1 i2 oh ih kM vM)) Q := by
  have key := Scf.wp_for frame (wpE (defs₀ (F := F)) 𝒱₀ (c : Thread nD τ) none) Set.univ lp.lb lp.ub lp.st hok ()
    (lastBody (F := F) lp o1 o2 i1 i2 oh ih kM vM)
    (fun k _ => sweepHeld c kM vM (Sk := Sk) (Sv := Sv) (pk := pk) (pv := pv) (fk := fk) (fv := fv) q
      (upto (fun b => k0_pay27 (blk b q) kk vv (blk b f) (blk b l)) f k) l) (Q := Q) ?_
  · refine BIBase.Entails.trans ?_ key
    rw [show Scf.trips lp.lb lp.ub lp.st = 8 from ht]
    simp only [upto_zero, upto_eight]
    iintro ⟨H, HK⟩
    isplitl [H]
    · iexact H
    iintro %acc H
    cases acc
    iapply HK
    iexact H
  · intro k acc
    have hk : k.val < 8 := lt_of_lt_of_eq k.isLt ht
    unfold sweepHeld lastBody
    simp only [Prog.lift, Prog.bind_op, Prog.bind_ret, Prog.pure_eq_ret]
    iintro ⟨Hq, Hk, Hv, Hl, Ho⟩
    iapply (wp_load 𝒱₀ (c : Thread nD τ) none Set.univ (m := Memref.whole cc0_scratch0) (Finset.subset_univ _)) $$ Hq
    iintro Hq
    iapply (wp_load 𝒱₀ (c : Thread nD τ) none Set.univ (m := kM) hSk) $$ Hk
    iintro Hk
    iapply (wp_load 𝒱₀ (c : Thread nD τ) none Set.univ (m := vM) hSv) $$ Hv
    iintro Hv
    iapply (wp_load 𝒱₀ (c : Thread nD τ) none Set.univ (m := Memref.whole cc0_stg0_0) (Finset.subset_univ _)) $$ Ho
    iintro Ho
    iapply (wp_load 𝒱₀ (c : Thread nD τ) none Set.univ (m := Memref.whole cc0_scratch7) (Finset.subset_univ _)) $$ Hl
    iintro Hl
    iapply (wp_load 𝒱₀ (c : Thread nD τ) none Set.univ (m := Memref.whole cc0_stg0_0) (Finset.subset_univ _)) $$ Ho
    iintro Ho
    iapply (wp_store 𝒱₀ (c : Thread nD τ) none Set.univ (m := Memref.whole cc0_stg0_0) (r := Rect.unit (s := S4096x512) (o1 k) S512x512.size (i1 k)) (Finset.subset_univ _)) $$ Ho
    iintro Ho
    rw [wp_ret]
    imodintro
    have eq : (Memref.whole cc0_scratch0).view.readAt (Elt F) (Rect.unit (s := S4096x512) (o1 k) S512x512.size (i1 k)).toLoadRect q = blk ⟨k.val, hk⟩ q :=
      read_blk q ⟨k.val, hk⟩ (o1 k) (h1 k) (i1 k)
    have eo : (Memref.whole cc0_stg0_0).view.readAt (Elt F) (Rect.unit (s := S4096x512) (o1 k) S512x512.size (i1 k)).toLoadRect
        (upto (fun b => k0_pay27 (blk b q) kk vv (blk b f) (blk b l)) f k.val) = blk ⟨k.val, hk⟩ f :=
      read_upto (fun b => k0_pay27 (blk b q) kk vv (blk b f) (blk b l)) f ⟨k.val, hk⟩ (o1 k) (h1 k) (i1 k)
    have el : (Memref.whole cc0_scratch7).view.readAt (Elt F) (Rect.unit (s := S4096x1) (o2 k) S512x1.size (i2 k)).toLoadRect l = blk ⟨k.val, hk⟩ l :=
      read_blk l ⟨k.val, hk⟩ (o2 k) (h2 k) (i2 k)
    rw [hrk, hrv, eq, eo, el]
    have e1 := upto_succ (fun b => k0_pay27 (blk b q) kk vv (blk b f) (blk b l)) f _ ⟨k.val, hk⟩ (o1 k) (h1 k) (i1 k)
      (write_at cc0_stg0_0 (Rect.unit (s := S4096x512) (o1 k) S512x512.size (i1 k)) (upto (fun b => k0_pay27 (blk b q) kk vv (blk b f) (blk b l)) f k.val) ((fun b => k0_pay27 (blk b q) kk vv (blk b f) (blk b l)) ⟨k.val, hk⟩))
      (fun i hi => write_off cc0_stg0_0 _ _ _ hi)
    rw [← e1]
    isplitl [Hq]; · iexact Hq
    isplitl [Hk]; · iexact Hk
    isplitl [Hv]; · iexact Hv
    isplitl [Hl]; · iexact Hl
    iexact Ho

end Rules

end Cert.RingAttn
-- ==== Proof.Protocol.lean ====
/-
  The protocol of the ring: which semaphore cells a device has, how many units each gets in each round and from whom,
  what those units hand over, what every device owes at the start and in which order it pays, and the rules the body is
  run by — a signal, a transfer to a neighbour, a copy on the device, a wait — each stated over that schedule.
-/
module

public import proofs.«01_k».proof.Proof.Loops

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Contents -/

/-- Device `c`'s block of the queries, -/
def Aq (c : Dev nD) : Vec F S4096x512 .f32 := m ((c : Thread nD τ).loc main_arg0)
/-- of the keys -/
def Ak (c : Dev nD) : Vec F S4096x512 .f32 := m ((c : Thread nD τ).loc main_arg1)
/-- and of the values. -/
def Av (c : Dev nD) : Vec F S4096x512 .f32 := m ((c : Thread nD τ).loc main_arg2)
/-- The packed keys of device `c` -/
def KP (c : Dev nD) : Vec F S2x2048x512 .bf16 := packed (Ak m c)
/-- and its packed values. -/
def VP (c : Dev nD) : Vec F S2x2048x512 .bf16 := packed (Av m c)

/-! ## The cells -/

/-- DMA semaphore `k`. -/
abbrev dS (k : Fin 18) : DmaSem sig := k
/-- A number for each semaphore: a DMA semaphore's own, then 18 for the credit semaphore and 19 for the barrier. -/
def slot : SemLoc sig → ℕ
  | .dma k => k.val
  | .reg k => 18 + k.val
/-- The cells the ring uses: eight send, eight receive, the staging one, the barrier, the credit. -/
def csem (k : Fin 19) : SemLoc sig :=
  if h : k.val < 17 then .dma ⟨k.val + 1, by show k.val + 1 < 18; omega⟩
  else if k.val = 17 then .reg (1 : Fin 2) else .reg (0 : Fin 2)
/-- A cell of a device. -/
abbrev cl (c : Dev nD) (s : SemLoc sig) : GSem nD τ sig := ((c : Thread nD τ), s)
abbrev kcell (ck : Dev nD × Fin 19) : GSem nD τ sig := cl ck.1 (csem ck.2)

/-- The credit of a whole key or value buffer, -/
def NW : ℕ := (Memref.whole cc0_scratch1 : Memref sig .tc .vmem S2x2048x512 .bf16).view.dmaCredit
/-- of one half of it, -/
def NH : ℕ := (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.dmaCredit
/-- and of a block in f32. -/
def NS : ℕ := (Memref.whole cc0_stg0_0 : Memref sig .tc .vmem S4096x512 .f32).view.dmaCredit

theorem NW_pos : 0 < NW := View.dmaCredit_pos _ (by decide)
theorem NH_pos : 0 < NH := View.dmaCredit_pos _ (by decide)
theorem NS_pos : 0 < NS := View.dmaCredit_pos _ (by decide)

/-! ## The schedule -/

/-- The duties of round `r` of the cell numbered `s`. -/
def dutiesAt (s r : ℕ) : Finset Bool :=
  if s = 18 ∨ s = 19 then (if r = 0 then Finset.univ else ∅)
  else if s = 17 then (if r < 3 then {false} else ∅)
  else if r = 0 then {false} else ∅

/-- The units of a duty of the cell numbered `s`. -/
def amountAt (s : ℕ) : ℕ :=
  if s = 18 ∨ s = 19 then 1
  else if s = 17 then NS
  else if s ≤ 4 ∨ (9 ≤ s ∧ s ≤ 12) then NW
  else NH

theorem amountAt_pos (s : ℕ) : 0 < amountAt s := by
  unfold amountAt
  have := NW_pos; have := NH_pos; have := NS_pos
  repeat' split
  all_goals first | assumption | omega

/-- What the units of the cell numbered `s` of device `c` hand to `c`. Sends 1–8 give the share of the source back;
    receives 9–16 give the block landed; the staging cell 17 gives the staged block and the array it came from; the
    credit 18 and the barrier 19 give the buffers of a neighbour this device may write. -/
def pay (c : Dev nD) (s r : ℕ) (d : Bool) : sProp 𝕄 :=
  match s with
  | 1 => ((c : Thread nD τ).loc cc0_scratch1 ↦{fullShare.left} KP m c)
  | 2 => ((c : Thread nD τ).loc cc0_scratch2 ↦{fullShare.left} VP m c)
  | 3 => ((c : Thread nD τ).loc cc0_scratch1 ↦{fullShare.right.left} KP m c)
  | 4 => ((c : Thread nD τ).loc cc0_scratch2 ↦{fullShare.right.left} VP m c)
  | 5 => ((c : Thread nD τ).loc cc0_scratch3 ↦[H 0]{fullShare.left} KP m (prv c))
  | 6 => ((c : Thread nD τ).loc cc0_scratch4 ↦[H 0]{fullShare.left} VP m (prv c))
  | 7 => ((c : Thread nD τ).loc cc0_scratch5 ↦[H 1]{fullShare} KP m (nxt c))
  | 8 => ((c : Thread nD τ).loc cc0_scratch6 ↦[H 1]{fullShare} VP m (nxt c))
  | 9 => ((c : Thread nD τ).loc cc0_scratch3 ↦{fullShare} KP m (prv c))
  | 10 => ((c : Thread nD τ).loc cc0_scratch4 ↦{fullShare} VP m (prv c))
  | 11 => ((c : Thread nD τ).loc cc0_scratch5 ↦{fullShare} KP m (nxt c))
  | 12 => ((c : Thread nD τ).loc cc0_scratch6 ↦{fullShare} VP m (nxt c))
  | 13 => ((c : Thread nD τ).loc cc0_scratch1 ↦[H 0]{fullShare} KP m (prv (prv c)))
  | 14 => ((c : Thread nD τ).loc cc0_scratch2 ↦[H 0]{fullShare} VP m (prv (prv c)))
  | 15 => ((c : Thread nD τ).loc cc0_scratch1 ↦[H 1]{fullShare} KP m (nxt (nxt c)))
  | 16 => ((c : Thread nD τ).loc cc0_scratch2 ↦[H 1]{fullShare} VP m (nxt (nxt c)))
  | 17 => match r with
    | 0 => iprop(((c : Thread nD τ).loc cc0_stg0_0 ↦{fullShare} Ak m c) ∗ ((c : Thread nD τ).loc main_arg1 ↦{fullShare} Ak m c))
    | 1 => iprop(((c : Thread nD τ).loc cc0_stg0_0 ↦{fullShare} Av m c) ∗ ((c : Thread nD τ).loc main_arg2 ↦{fullShare} Av m c))
    | _ => iprop(((c : Thread nD τ).loc cc0_stg0_0 ↦{fullShare} Aq m c) ∗ ((c : Thread nD τ).loc main_arg0 ↦{fullShare} Aq m c))
  | 18 => match d with
    | true => iprop((∃ f, (nxt c : Thread nD τ).loc cc0_scratch1 ↦[H 0]{fullShare} f) ∗ (∃ f, (nxt c : Thread nD τ).loc cc0_scratch2 ↦[H 0]{fullShare} f))
    | false => iprop((∃ f, (prv c : Thread nD τ).loc cc0_scratch1 ↦[H 1]{fullShare} f) ∗ (∃ f, (prv c : Thread nD τ).loc cc0_scratch2 ↦[H 1]{fullShare} f))
  | 19 => match d with
    | true => iprop((∃ f, (nxt c : Thread nD τ).loc cc0_scratch3 ↦{fullShare} f) ∗ (∃ f, (nxt c : Thread nD τ).loc cc0_scratch4 ↦{fullShare} f))
    | false => iprop((∃ f, (prv c : Thread nD τ).loc cc0_scratch5 ↦{fullShare} f) ∗ (∃ f, (prv c : Thread nD τ).loc cc0_scratch6 ↦{fullShare} f))
  | _ => iprop(emp)

instance pay_storable (c : Dev nD) (s r : ℕ) (d : Bool) : BI.Storable (upEmb : UEmb _ 𝕄) (pay m c s r d) := by
  unfold pay
  (repeat' split) <;> infer_instance

/-- The schedule of the ring's cells. -/
def Rd : Rounds.Schedule (GSem nD τ sig) Bool 𝕄 where
  duties g r := dutiesAt (slot g.2) r
  unitless _ := False
  amount g _ _ := amountAt (slot g.2)
  payload g r d := pay m g.1.1 (slot g.2) r d
  amount_pos _ _ _ _ := amountAt_pos _

instance Rd_payload_storable (g : GSem nD τ sig) (r : ℕ) (d : Bool) : BI.Storable (upEmb : UEmb _ 𝕄) ((Rd (F := F) m).payload g r d) :=
  pay_storable m _ _ _ _

theorem later_one (s : SemLoc sig) (hs : slot s ≠ 17) (c : Dev nD) : ∀ r, 0 + 1 ≤ r → (Rd (F := F) m).duties (cl c s) r = ∅ := by
  intro r hr
  show dutiesAt (slot s) r = ∅
  unfold dutiesAt
  rw [if_neg (show ¬ r = 0 by omega), if_neg hs, if_neg (show ¬ r = 0 by omega), ite_self]

theorem later_three (s : SemLoc sig) (hs : slot s = 17) (c : Dev nD) : ∀ r, 2 + 1 ≤ r → (Rd (F := F) m).duties (cl c s) r = ∅ := by
  intro r hr
  show dutiesAt (slot s) r = ∅
  unfold dutiesAt
  rw [hs, if_neg (by decide), if_pos rfl, if_neg (by omega)]

/-! ## What each device owes -/

/-- A neighbour: the next device for `true`, the previous one for `false`. -/
def goto : Bool → Dev nD → Dev nD
  | true => nxt
  | false => prv

/-- What device `c` owes: the units of the listed cells of its neighbours. -/
def Ol (c : Dev nD) : List (Bool × SemLoc sig × ℕ) → CellTallies nD τ sig Unit
  | [] => 0
  | x :: l => Ol c l + tallyAt (cl (goto x.1 c) x.2.1) () x.2.2

/-- Everything a device owes at the start, in the order in which it pays. -/
def due : List (Bool × SemLoc sig × ℕ) :=
  [(false, .reg (1 : Fin 2), 1), (true, .reg (1 : Fin 2), 1),
   (true, .dma (dS 9), NW), (false, .dma (dS 11), NW), (true, .dma (dS 10), NW), (false, .dma (dS 12), NW),
   (false, .reg (0 : Fin 2), 1), (true, .reg (0 : Fin 2), 1),
   (true, .dma (dS 13), NH), (true, .dma (dS 14), NH), (false, .dma (dS 15), NH), (false, .dma (dS 16), NH)]

/-- The levels: the cells a device fills itself at 0, the barrier at 1, the first receives at 2, the credit at 3, the
    second receives at 4. -/
def rank (s : SemLoc sig) : ℕ :=
  if slot s = 19 then 1 else if slot s = 18 then 3 else if slot s < 9 then 0 else if slot s < 13 then 2 else if slot s < 17 then 4 else 0

def L (g : GSem nD τ sig) : Finset Unit := if g.1.2 = .tc then {()} else ∅
def lv (g : GSem nD τ sig) (_ : Unit) : ℕ := rank g.2

theorem L_of_ne (g : GSem nD τ sig) (h : g.1.2 ≠ .tc) : L g = ∅ := if_neg h
theorem L_tc (c : Dev nD) (s : SemLoc sig) : L (cl c s) = {()} := if_pos rfl

/-- A cell owed units of is one of the listed ones. -/
theorem Ol_pos {c : Dev nD} {g : GSem nD τ sig} {u : Unit} :
    ∀ {l : List (Bool × SemLoc sig × ℕ)}, 0 < Ol c l g u → ∃ x ∈ l, g = cl (goto x.1 c) x.2.1
  | [], h => absurd h (Nat.lt_irrefl 0)
  | x :: l, h => by
    unfold Ol at h
    rw [Pi.add_apply, Finsupp.add_apply, tallyAt_apply] at h
    by_cases hg : g = cl (goto x.1 c) x.2.1 ∧ u = ()
    · exact ⟨x, List.mem_cons_self, hg.1⟩
    · rw [if_neg hg, Nat.add_zero] at h
      obtain ⟨y, hy, e⟩ := Ol_pos h
      exact ⟨y, List.mem_cons_of_mem _ hy, e⟩

/-- A device may wait on a cell of its own that ranks below every cell it still owes. -/
theorem mayWait_below (c : Dev nD) (s : SemLoc sig) (l : List (Bool × SemLoc sig × ℕ)) (h : ∀ x ∈ l, rank s < rank x.2.1) :
    (levAts L lv : sProp 𝕄) ⊢ MayWait (c : Thread nD τ) s () (Ol c l) :=
  MayOwe.of_cut (L := L) (lev := lv) (rank s)
    (fun p hp => by rw [Finset.mem_singleton.mp hp, L_tc]; exact Finset.mem_singleton_self _)
    (fun g u hg => by obtain ⟨x, _, rfl⟩ := Ol_pos hg; exact Finset.mem_singleton_self _)
    (fun p hp => by rw [Finset.mem_singleton.mp hp]; exact Nat.le_refl _)
    (fun g u hg => by obtain ⟨x, hx, rfl⟩ := Ol_pos hg; exact h x hx)

/-- What device `c` still owes, its list of payments left being `l`. -/
def owing (c : Dev nD) (l : List (Bool × SemLoc sig × ℕ)) : sProp 𝕄 := iprop(∃ W, owes (c : Thread nD τ) (Ol c l) W)

/-! ## The records every device reads -/

variable (K : Dev nD × Fin 19 → ℕ)

/-- The invariants of all the ring's cells, and that each is at round 0 at least. -/
def records : sProp 𝕄 :=
  iprop((bigSep (Finset.univ : Finset (Dev nD × Fin 19)) fun ck => cellInv ER (Rd m) (K ck) (kcell ck))
    ∗ bigSep (Finset.univ : Finset (Dev nD × Fin 19)) fun ck => reached ER (kcell ck) 0)

instance records_persistent : BI.Persistent (records (F := F) m K) := by unfold records; infer_instance

private theorem pick {ι : Type*} [DecidableEq ι] [Fintype ι] (i : ι) (Φ : ι → sProp 𝕄) : bigSep (Finset.univ : Finset ι) Φ ⊢ Φ i :=
  bigSep_elim (Finset.mem_univ i)

theorem inv_at (c : Dev nD) (k : Fin 19) {s : SemLoc sig} (hk : csem k = s) :
    records (F := F) m K ⊢ cellInv ER (Rd m) (K (c, k)) (cl c s) := by
  subst hk
  unfold records
  iintro ⟨HI, -⟩
  iapply (pick (c, k) (fun ck => cellInv ER (Rd m) (K ck) (kcell ck)))
  iexact HI

theorem reach_at (c : Dev nD) (k : Fin 19) {s : SemLoc sig} (hk : csem k = s) :
    records (F := F) m K ⊢ reached ER (cl c s) 0 := by
  subst hk
  unfold records
  iintro ⟨-, HR⟩
  iapply (pick (c, k) (fun ck => reached ER (kcell ck) 0))
  iexact HR

end Cert.RingAttn
-- ==== Proof.Steps.lean ====
/-
  The rules the body is run by, over the ring's schedule: a signal to a neighbour, a transfer to a neighbour, a copy on
  the device, a wait, and the closing of a cell that gets nothing more.
-/
module

public import proofs.«01_k».proof.Proof.Protocol

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-- A SIGNAL of one unit to a neighbour: pays the head of what the device owes with the neighbour's duty `d`, handing
    over what that duty delivers. -/
theorem wp_ping (c : Dev nD) (b : Bool) (k : Fin 19) (d : Bool) {n : Dev nD} {s : Sem sig} {u : ℕ} (hn : n = goto b c)
    (hk : csem k = .reg s) (hs : 18 ≤ slot (.reg s) ∧ slot (.reg s) ≤ 19) (hu : 1 = u) (l₀ l : List (Bool × SemLoc sig × ℕ)) (hl : l₀ = (b, .reg s, 1) :: l)
    {α : Type} {kt : PUnit → Prog (TpuEff nD τ sig (Elt F) Λ₀ .tc) α} {Q : α → sProp 𝕄} :
    iprop(records m K ∗ owing c l₀ ∗ dutyTok ER (cl (goto b c) (.reg s)) 0 d ∗ pay m (goto b c) (slot (.reg s)) 0 d)
      ⊢ iprop((owing c l -∗ wp frame (wpE (defs₀ (F := F)) 𝒱₀ (c : Thread nD τ) none) Set.univ (kt ⟨⟩) Q)
        -∗ wp frame (wpE (defs₀ (F := F)) 𝒱₀ (c : Thread nD τ) none) Set.univ (.op (.semSignal (n : Thread nD τ) s u) kt) Q) := by
  subst hn
  subst hu
  subst hl
  unfold owing
  iintro ⟨#HR, ⟨%W, HO⟩, Ht, Hp⟩ Hk
  iapply (Rounds.wp_signal 𝒱₀ ER (Rd m) (c : Thread nD τ) none (dst := (goto b c : Thread nD τ)) (κ := K (goto b c, k)) (d := d)
      (by show d ∈ dutiesAt (slot (.reg s)) 0
          unfold dutiesAt
          rw [if_pos (by omega), if_pos rfl]; exact Finset.mem_univ _)
      (by show amountAt (slot (.reg s)) = 1
          unfold amountAt
          rw [if_pos (by omega)]) () (Ol c l) rfl) $$ [HO Ht Hp]
  · isplitr; · iapply (inv_at m K (goto b c) k hk); iexact HR
    isplitl [HO]; · iexact HO
    isplitl [Ht]; · iexact Ht
    isplitl [Hp]; · iapply (show pay m (goto b c) (slot (.reg s)) 0 d ⊢ (Rd m).payload (cl (goto b c) (.reg s)) 0 d from BIBase.Entails.rfl); iexact Hp
    iapply (reach_at m K (goto b c) k hk); iexact HR
  iintro HO
  iapply Hk
  iexists W
  iexact HO

/-- A TRANSFER to a neighbour: pays the head of what the device owes; the source's share is lent to the send cell, the
    destination's elements go to the neighbour's receive cell holding `G`. -/
theorem wp_push (c : Dev nD) (b : Bool) (k₁ k₂ : Fin 19) {n : Dev nD} (hn : n = goto b c) {sz : Shape} {e : EltTy}
    {src : Memref sig .tc .vmem sz e} {dst : Memref sig .tc .vmem sz e} {sS sR : DmaSem sig} (tS tR : DmaSem sig) (hS : sS = tS) (hR : sR = tR)
    (hk₁ : csem k₁ = .dma tS) (hk₂ : csem k₂ = .dma tR) (h₁ : slot (.dma tS) ≤ 16) (h₂ : slot (.dma tR) ≤ 16) (N : ℕ)
    {hsc : dst.view.ref.isScScratch = false} {hsrc : src.view.WordExact} {hdst : dst.view.WordExact}
    {hsem : DmaTarget.Typed .vmem (SemLoc.dma sR) (.remote (Dev.tc n : Thread nD τ) dst (.dma sS) hsc)}
    (hN : dst.view.amount (.dma tR) = N) (a₁ : amountAt (slot (.dma tS)) = N) (a₂ : amountAt (slot (.dma tR)) = N)
    (l₀ l : List (Bool × SemLoc sig × ℕ)) (hl : l₀ = (b, .dma tR, N) :: l) {q : PosShare TreeShare} {fs : Buf (Elt F) (src.view.loc (c : Thread nD τ))}
    {fd : Buf (Elt F) (dst.view.loc (goto b c : Thread nD τ))} (G : Buf (Elt F) (dst.view.loc (goto b c : Thread nD τ)))
    {S : Finset (Idx (src.view.loc (c : Thread nD τ)))} {D : Finset (Idx (dst.view.loc (goto b c : Thread nD τ)))}
    (eS : src.view.set = S) (eD : dst.view.set = D)
    (hG : ∀ i ∈ D, dst.view.write (Elt F) fd (src.view.read (Elt F) fs) Finset.univ i = G i)
    (hp₁ : (src.view.loc (c : Thread nD τ) ↦[S]{q} fs) ⊢ pay m c (slot (.dma tS)) 0 false)
    (hp₂ : (dst.view.loc (goto b c : Thread nD τ) ↦[D]{fullShare} G) ⊢ pay m (goto b c) (slot (.dma tR)) 0 false)
    {α : Type} {kt : PUnit → Prog (TpuEff nD τ sig (Elt F) Λ₀ .tc) α} {Q : α → sProp 𝕄} :
    iprop(records m K ∗ owing c l₀ ∗ (src.view.loc (c : Thread nD τ) ↦[S]{q} fs) ∗ (dst.view.loc (goto b c : Thread nD τ) ↦[D]{fullShare} fd)
        ∗ dutyTok ER (cl c (.dma tS)) 0 false ∗ dutyTok ER (cl (goto b c) (.dma tR)) 0 false)
      ⊢ iprop(((cred (tallyAt (cl c (.dma tS)) () N) ∗ owing c l) -∗ wp frame (wpE (defs₀ (F := F)) 𝒱₀ (c : Thread nD τ) none) Set.univ (kt ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) kt) Q) := by
  subst hn
  subst hl
  subst hS
  subst hR
  subst eS
  subst eD
  unfold owing
  iintro ⟨#HR, ⟨%W, HO⟩, Hs, Hd, Ht₁, Ht₂⟩ Hk
  have mem : ∀ s, s ≤ 16 → false ∈ dutiesAt s 0 := by
    intro s hs
    unfold dutiesAt
    rw [if_neg (by omega), if_neg (by omega), if_pos rfl]
    exact Finset.mem_singleton_self _
  iapply (Rounds.wp_send_pointsTo 𝒱₀ ER (Rd m) (c : Thread nD τ) none (κ₁ := K (c, k₁)) (κ₂ := K (goto b c, k₂))
    (r₁ := 0) (r₂ := 0) (d₁ := false) (d₂ := false) (fd := fd) (mem _ h₁) (mem _ h₂) () () N hN a₁ a₂ (Ol c l) rfl (W := W)
    hp₁ ((Entails.of_eq (pointsTo_congr hG)).trans hp₂)) $$ [HO Hs Hd Ht₁ Ht₂]
  · isplitr; · iapply (inv_at m K c k₁ hk₁); iexact HR
    isplitr; · iapply (inv_at m K (goto b c) k₂ hk₂); iexact HR
    isplitl [Hs]; · iexact Hs
    isplitl [Hd]; · iexact Hd
    isplitl [HO]; · iexact HO
    isplitl [Ht₁]; · iexact Ht₁
    isplitr; · iapply (reach_at m K c k₁ hk₁); iexact HR
    isplitl [Ht₂]; · iexact Ht₂
    iapply (reach_at m K (goto b c) k₂ hk₂); iexact HR
  iintro ⟨Hc, HO⟩
  iapply Hk
  isplitl [Hc]; · iexact Hc
  iexists W
  iexact HO

/-- A COPY on the device, round `r` of the staging cell. -/
theorem wp_stage (c : Dev nD) (r : ℕ) (hr : r < 3) {sz : Shape} {e : EltTy} {sp sp' : Space}
    {src : Memref sig .tc sp sz e} {dst : Memref sig .tc sp' sz e} {s : DmaSem sig} (hs : s = dS 17)
    {hsrc : src.view.WordExact} {hdst : dst.view.WordExact} {hsem : DmaTarget.Typed sp (SemLoc.dma s) (DmaTarget.here (p := Proc.tc) dst)}
    (hN : dst.view.amount (.dma (dS 17)) = NS) {fs : Buf (Elt F) (src.view.loc (c : Thread nD τ))} {fd : Buf (Elt F) (dst.view.loc (c : Thread nD τ))}
    (G : Buf (Elt F) (dst.view.loc (c : Thread nD τ))) {S : Finset (Idx (src.view.loc (c : Thread nD τ)))} {D : Finset (Idx (dst.view.loc (c : Thread nD τ)))}
    (eS : src.view.set = S) (eD : dst.view.set = D) (hG : ∀ i ∈ D, dst.view.write (Elt F) fd (src.view.read (Elt F) fs) Finset.univ i = G i)
    (hp : iprop((dst.view.loc (c : Thread nD τ) ↦[D]{fullShare} G) ∗ (src.view.loc (c : Thread nD τ) ↦[S]{fullShare} fs)) ⊢ pay m c 17 r false)
    {α : Type} {kt : PUnit → Prog (TpuEff nD τ sig (Elt F) Λ₀ .tc) α} {Q : α → sProp 𝕄} :
    iprop(records m K ∗ (src.view.loc (c : Thread nD τ) ↦[S]{fullShare} fs) ∗ (dst.view.loc (c : Thread nD τ) ↦[D]{fullShare} fd)
        ∗ dutyTok ER (cl c (.dma (dS 17))) r false ∗ reached ER (cl c (.dma (dS 17))) r)
      ⊢ iprop((cred (tallyAt (cl c (.dma (dS 17))) () NS) -∗ wp frame (wpE (defs₀ (F := F)) 𝒱₀ (c : Thread nD τ) none) Set.univ (kt ⟨⟩) Q)
        -∗ wp frame (wpE (defs₀ (F := F)) 𝒱₀ (c : Thread nD τ) none) Set.univ (.op (.enqueueDma src (.here dst) (.dma s) hsrc hdst hsem) kt) Q) := by
  subst hs
  subst eS
  subst eD
  iintro ⟨#HR, Hs, Hd, Ht, Hr⟩ Hk
  iapply (Rounds.wp_copy_pointsTo 𝒱₀ ER (Rd m) (c : Thread nD τ) none (κ := K (c, 16)) (r := r) (d := false) (fd := fd)
    (by show false ∈ dutiesAt 17 r
        unfold dutiesAt
        rw [if_neg (by decide), if_pos rfl, if_pos hr]
        exact Finset.mem_singleton_self _) () NS hN
    (by show amountAt 17 = NS
        unfold amountAt
        rw [if_neg (by decide), if_pos rfl])
    ((show _ ⊢ _ from BI.sep_mono (BIBase.Entails.of_eq (pointsTo_congr hG)) (show _ ⊢ (src.view.loc (c : Thread nD τ) ↦[src.view.set]{fullShare} fs) from BIBase.Entails.rfl)).trans hp)) $$ [Hs Hd Ht Hr]
  · isplitr; · iapply (inv_at m K c 16 rfl); iexact HR
    isplitl [Hs]; · iexact Hs
    isplitl [Hd]; · iexact Hd
    isplitl [Ht]; · iexact Ht
    iexact Hr
  iexact Hk

/-- A WAIT for the whole of round `r` of one of the device's own cells, ranked below all it still owes. -/
theorem wp_await (c : Dev nD) (k : Fin 19) (r : ℕ) {s : SemLoc sig} (t : SemLoc sig) (hst : s = t) (hk : csem k = t) {w : TpuEff nD τ sig (Elt F) Λ₀ .tc PUnit} {u : ℕ}
    (hw : ∀ Kt : PUnit → sProp 𝕄, wpE (defs₀ (F := F)) 𝒱₀ (c : Thread nD τ) none Set.univ w Kt = waitSpec (c : Thread nD τ) Set.univ s u Kt)
    (hu : u = (dutiesAt (slot t) r).card * amountAt (slot t)) (l : List (Bool × SemLoc sig × ℕ)) (hl : ∀ x ∈ l, rank t < rank x.2.1)
    {α : Type} {kt : PUnit → Prog (TpuEff nD τ sig (Elt F) Λ₀ .tc) α} {Q : α → sProp 𝕄} :
    iprop(records m K ∗ levAts L lv ∗ cred (tallyAt (cl c t) () ((dutiesAt (slot t) r).card * amountAt (slot t))) ∗ owing c l ∗ atPos ER (cl c t) r ∅ 0)
      ⊢ iprop(((owing c l ∗ atPos ER (cl c t) (r + 1) ∅ 0 ∗ reached ER (cl c t) (r + 1)
              ∗ bigSep (dutiesAt (slot t) r) (fun d => pay m c (slot t) r d)) -∗ wp frame (wpE (defs₀ (F := F)) 𝒱₀ (c : Thread nD τ) none) Set.univ (kt ⟨⟩) Q)
        -∗ wp frame (wpE (defs₀ (F := F)) 𝒱₀ (c : Thread nD τ) none) Set.univ (.op w kt) Q) := by
  subst hst
  subst hu
  unfold owing
  iintro ⟨#HR, #Hlev, Hc, ⟨%W, HO⟩, Hat⟩ Hk
  have he : (Rd (F := F) m).expect (cl c s) r = (dutiesAt (slot s) r).card * amountAt (slot s) := by
    unfold Schedule.expect Schedule.amountOf
    show ∑ d ∈ dutiesAt (slot s) r, amountAt (slot s) = _
    rw [Finset.sum_const, smul_eq_mul]
  iapply (Rounds.wp_wait_rest_token 𝒱₀ ER (Rd m) (c : Thread nD τ) none (κ := K (c, k)) hw (Set.mem_univ _) () (O := Ol c l) (W := W)
      (R := r) (m := 0) (T := ∅) (by rw [Nat.zero_add, he])) $$ [Hc HO Hat]
  · isplitr; · iapply (inv_at m K c k hk); iexact HR
    isplitl [Hc]; · iexact Hc
    isplitl [HO]; · iexact HO
    isplitr; · iapply (mayWait_below c s l hl); iexact Hlev
    iexact Hat
  iintro ⟨HO, Hat, Hr, Hp⟩
  iapply Hk
  isplitl [HO]; · iexists _; iexact HO
  isplitl [Hat]; · iexact Hat
  isplitl [Hr]; · iexact Hr
  rw [Finset.sdiff_empty]
  iexact Hp

/-- A cell of one round, after it: its counter at zero is the device's again. -/
theorem close_one (c : Dev nD) (k : Fin 19) {s : SemLoc sig} (hk : csem k = s) (hs : slot s ≠ 17) :
    iprop(records m K ∗ atPos ER (cl c s) (0 + 1) ∅ 0) ⊢ iprop(|={Set.univ}=> (semVal (cl c s) 0 : sProp 𝕄)) := by
  iintro ⟨#HR, Hat⟩
  iapply (Rounds.cell_close ER (Rd m) (Set.mem_univ (K (c, k))) (fun h => h) (R := 0 + 1) (later_one m s hs c))
  isplitr; · iapply (inv_at m K c k hk); iexact HR
  iexact Hat

/-- The staging cell after its three rounds. -/
theorem close_three (c : Dev nD) :
    iprop(records m K ∗ atPos ER (cl c (.dma (dS 17))) (2 + 1) ∅ 0) ⊢ iprop(|={Set.univ}=> (semVal (cl c (.dma (dS 17))) 0 : sProp 𝕄)) := by
  iintro ⟨#HR, Hat⟩
  iapply (Rounds.cell_close ER (Rd m) (Set.mem_univ (K (c, 16))) (fun h => h) (R := 2 + 1) (later_three m _ rfl c))
  isplitr; · iapply (inv_at m K c 16 rfl); iexact HR
  iexact Hat

/-- A WAIT on a send or receive cell: what it hands over, and the cell closed. -/
theorem wp_take (c : Dev nD) (k : Fin 19) {s : DmaSem sig} (t : DmaSem sig) (hst : s = t) (hk : csem k = .dma t) (h16 : slot (.dma t) ≤ 16)
    {sp sp' : Space} {sz sz' : Shape} {e e' : EltTy} {src : Memref sig .tc sp' sz' e'} {dst : Memref sig .tc sp sz e}
    {hsrc : src.view.WordExact} {hdst : dst.view.WordExact} (N : ℕ) (hN : dst.view.dmaCredit = N) (a : amountAt (slot (.dma t)) = N)
    (l : List (Bool × SemLoc sig × ℕ)) (hl : ∀ x ∈ l, rank (.dma t) < rank x.2.1)
    {α : Type} {kt : PUnit → Prog (TpuEff nD τ sig (Elt F) Λ₀ .tc) α} {Q : α → sProp 𝕄} :
    iprop(records m K ∗ levAts L lv ∗ cred (tallyAt (cl c (.dma t)) () N) ∗ owing c l ∗ atPos ER (cl c (.dma t)) 0 ∅ 0)
      ⊢ iprop(((owing c l ∗ semVal (cl c (.dma t)) 0 ∗ pay m c (slot (.dma t)) 0 false) -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 s src dst hsrc hdst) kt) Q) := by
  subst hst
  have hd : dutiesAt (slot (.dma s)) 0 = {false} := by
    unfold dutiesAt
    rw [if_neg (by omega), if_neg (by omega), if_pos rfl]
  have hc : (dutiesAt (slot (.dma s)) 0).card * amountAt (slot (.dma s)) = N := by rw [hd, Finset.card_singleton, one_mul, a]
  iintro ⟨#HR, #Hlev, Hc, HO, Hat⟩ Hk
  iapply (wp_await m K c k 0 (.dma s) rfl hk (wpE_waitDma2_eq 𝒱₀ (c : Thread nD τ) none Set.univ) (hN.trans hc.symm) l hl) $$ [Hc HO Hat]
  · isplitr; · iexact HR
    isplitr; · iexact Hlev
    isplitl [Hc]; · rw [hc]; iexact Hc
    isplitl [HO]; · iexact HO
    iexact Hat
  iintro ⟨HO, Hat, -, Hp⟩
  imod (close_one m K c k hk (by omega)) $$ [Hat] with Hz
  · isplitr; · iexact HR
    iexact Hat
  iapply Hk
  isplitl [HO]; · iexact HO
  isplitl [Hz]; · iexact Hz
  iapply (show bigSep (dutiesAt (slot (.dma s)) 0) (fun d => pay m c (slot (.dma s)) 0 d) ⊢ pay m c (slot (.dma s)) 0 false from
    BIBase.Entails.of_eq (by rw [hd, bigSep_singleton]))
  iexact Hp

/-- A WAIT for a round of the staging cell. -/
theorem wp_staged (c : Dev nD) (r : ℕ) (hr : r < 3) {s : DmaSem sig} (hst : s = dS 17)
    {sp sp' : Space} {sz sz' : Shape} {e e' : EltTy} {src : Memref sig .tc sp' sz' e'} {dst : Memref sig .tc sp sz e}
    {hsrc : src.view.WordExact} {hdst : dst.view.WordExact} (hN : dst.view.dmaCredit = NS)
    (l : List (Bool × SemLoc sig × ℕ)) (hl : ∀ x ∈ l, rank (.dma (dS 17)) < rank x.2.1)
    {α : Type} {kt : PUnit → Prog (TpuEff nD τ sig (Elt F) Λ₀ .tc) α} {Q : α → sProp 𝕄} :
    iprop(records m K ∗ levAts L lv ∗ cred (tallyAt (cl c (.dma (dS 17))) () NS) ∗ owing c l ∗ atPos ER (cl c (.dma (dS 17))) r ∅ 0)
      ⊢ iprop(((owing c l ∗ atPos ER (cl c (.dma (dS 17))) (r + 1) ∅ 0 ∗ reached ER (cl c (.dma (dS 17))) (r + 1) ∗ pay m c 17 r false)
          -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 s src dst hsrc hdst) kt) Q) := by
  subst hst
  have hd : dutiesAt (slot (.dma (dS 17))) r = {false} := by
    show dutiesAt 17 r = _
    unfold dutiesAt
    rw [if_neg (by decide), if_pos rfl, if_pos hr]
  have hc : (dutiesAt (slot (.dma (dS 17))) r).card * amountAt (slot (.dma (dS 17))) = NS := by
    rw [hd, Finset.card_singleton, one_mul]
    show amountAt 17 = NS
    unfold amountAt
    rw [if_neg (by decide), if_pos rfl]
  iintro ⟨#HR, #Hlev, Hc, HO, Hat⟩ Hk
  iapply (wp_await m K c 16 r (.dma (dS 17)) rfl rfl (wpE_waitDma2_eq 𝒱₀ (c : Thread nD τ) none Set.univ) (hN.trans hc.symm) l hl) $$ [Hc HO Hat]
  · isplitr; · iexact HR
    isplitr; · iexact Hlev
    isplitl [Hc]; · rw [hc]; iexact Hc
    isplitl [HO]; · iexact HO
    iexact Hat
  iintro ⟨HO, Hat, Hr, Hp⟩
  iapply Hk
  isplitl [HO]; · iexact HO
  isplitl [Hat]; · iexact Hat
  isplitl [Hr]; · iexact Hr
  iapply (show bigSep (dutiesAt (slot (.dma (dS 17))) r) (fun d => pay m c (slot (.dma (dS 17))) r d) ⊢ pay m c (slot (.dma (dS 17))) r false from
    BIBase.Entails.of_eq (by rw [hd, bigSep_singleton]))
  iexact Hp

/-- A WAIT for both neighbours' signals on the barrier or the credit cell: what both hand over, and the cell closed. -/
theorem wp_meet (c : Dev nD) (k : Fin 19) {s : Sem sig} (t : Sem sig) (hst : s = t) (hk : csem k = .reg t) (hs : 18 ≤ slot (.reg t) ∧ slot (.reg t) ≤ 19)
    {u : ℕ} (hu : u = 2) (l : List (Bool × SemLoc sig × ℕ)) (hl : ∀ x ∈ l, rank (.reg t) < rank x.2.1)
    {α : Type} {kt : PUnit → Prog (TpuEff nD τ sig (Elt F) Λ₀ .tc) α} {Q : α → sProp 𝕄} :
    iprop(records m K ∗ levAts L lv ∗ cred (tallyAt (cl c (.reg t)) () 2) ∗ owing c l ∗ atPos ER (cl c (.reg t)) 0 ∅ 0)
      ⊢ iprop(((owing c l ∗ semVal (cl c (.reg t)) 0 ∗ pay m c (slot (.reg t)) 0 false ∗ pay m c (slot (.reg t)) 0 true)
          -∗ wp frame (wpE (defs₀ (F := F)) 𝒱₀ (c : Thread nD τ) none) Set.univ (kt ⟨⟩) Q)
        -∗ wp frame (wpE (defs₀ (F := F)) 𝒱₀ (c : Thread nD τ) none) Set.univ (.op (.semWait s u) kt) Q) := by
  subst hst
  have hd : dutiesAt (slot (.reg s)) 0 = Finset.univ := by
    unfold dutiesAt
    rw [if_pos (by omega), if_pos rfl]
  have hc : (dutiesAt (slot (.reg s)) 0).card * amountAt (slot (.reg s)) = 2 := by
    rw [hd, Finset.card_univ, Fintype.card_bool]
    unfold amountAt
    rw [if_pos (by omega)]
  iintro ⟨#HR, #Hlev, Hc, HO, Hat⟩ Hk
  iapply (wp_await m K c k 0 (.reg s) rfl hk (wpE_semWait_eq 𝒱₀ (c : Thread nD τ) none Set.univ) (hu.trans hc.symm) l hl) $$ [Hc HO Hat]
  · isplitr; · iexact HR
    isplitr; · iexact Hlev
    isplitl [Hc]; · rw [hc]; iexact Hc
    isplitl [HO]; · iexact HO
    iexact Hat
  iintro ⟨HO, Hat, -, Hp⟩
  imod (close_one m K c k hk (by omega)) $$ [Hat] with Hz
  · isplitr; · iexact HR
    iexact Hat
  iapply Hk
  isplitl [HO]; · iexact HO
  isplitl [Hz]; · iexact Hz
  iapply (show bigSep (dutiesAt (slot (.reg s)) 0) (fun d => pay m c (slot (.reg s)) 0 d)
      ⊢ iprop(pay m c (slot (.reg s)) 0 false ∗ pay m c (slot (.reg s)) 0 true) from
    BIBase.Entails.of_eq (by rw [hd, bigSep_univ_eq_bigSepL [false, true] (by decide) (by decide), bigSepL_cons_cons, bigSepL_singleton]; rfl))
  iexact Hp

end Cert.RingAttn
-- ==== Proof.Pieces.lean ====
/-
  Parting and joining the buffers: shares, halves, and what a copy of a buffer or of a half leaves.
-/
module

public import proofs.«01_k».proof.Proof.Steps

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Shares -/

section Shares
variable {ℓ : Loc nD τ sig} {I : Finset (Idx ℓ)} {f : Buf (Elt F) ℓ}

/-- A share parts into its two halves, -/
theorem halve (q : PosShare TreeShare) : (ℓ ↦[I]{q} f : sProp 𝕄) ⊢ iprop((ℓ ↦[I]{q.left} f) ∗ ℓ ↦[I]{q.right} f) :=
  (pointsTo_share (PosShare.mem_left_op_right q)).1
/-- which join again. -/
theorem unite (q : PosShare TreeShare) : iprop((ℓ ↦[I]{q.left} f) ∗ ℓ ↦[I]{q.right} f) ⊢ (ℓ ↦[I]{q} f : sProp 𝕄) :=
  (pointsTo_share (PosShare.mem_left_op_right q)).2

/-- A points-to parts along two disjoint element sets that make up its own, -/
theorem cut {J S : Finset (Idx ℓ)} {q : PosShare TreeShare} (hd : Disjoint I J) (hu : I ∪ J = S) :
    (ℓ ↦[S]{q} f : sProp 𝕄) ⊢ iprop((ℓ ↦[I]{q} f) ∗ ℓ ↦[J]{q} f) := by
  subst hu; exact (pointsTo_union hd).1
/-- and two of them join again, -/
theorem mend {J S : Finset (Idx ℓ)} {q : PosShare TreeShare} (hd : Disjoint I J) (hu : I ∪ J = S) :
    iprop((ℓ ↦[I]{q} f) ∗ ℓ ↦[J]{q} f) ⊢ (ℓ ↦[S]{q} f : sProp 𝕄) := by
  subst hu; exact (pointsTo_union hd).2
/-- whatever their contents. -/
theorem patch {J S : Finset (Idx ℓ)} {q : PosShare TreeShare} {g : Buf (Elt F) ℓ} (hd : Disjoint I J) (hu : I ∪ J = S) :
    iprop((ℓ ↦[I]{q} f) ∗ ℓ ↦[J]{q} g) ⊢ (iprop(∃ h, ℓ ↦[S]{q} h) : sProp 𝕄) := by
  subst hu
  exact (pointsTo_join hd).trans (by iintro H; iexists _; iexact H)

end Shares

/-! ## Halves -/

theorem halves_disjoint : Disjoint (H 0) (H 1) :=
  Finset.disjoint_left.mpr fun i h0 h1 => by rw [mem_H] at h0 h1; exact (show (0 : Fin 2) ≠ 1 by decide) (h0.symm.trans h1)
theorem halves_union : H 0 ∪ H 1 = Finset.univ := by
  ext i
  simp only [Finset.mem_union, mem_H, Finset.mem_univ, iff_true]
  exact (show ∀ a : Fin 2, a = 0 ∨ a = 1 by decide) (i 0)

section HalvesOf
variable (c : Dev nD)

/-- A half view's elements, for each buffer the kernel takes a half of. -/
theorem set_half3 : (((Memref.whole cc0_scratch3 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.set = H 0 :=
  (View.set_reshape _ _).trans ((View.set_slice_whole _ _).trans (set_half 0 _ rfl _))
theorem set_half4 : (((Memref.whole cc0_scratch4 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.set = H 0 :=
  (View.set_reshape _ _).trans ((View.set_slice_whole _ _).trans (set_half 0 _ rfl _))
theorem set_half1 : (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.set = H 0 :=
  (View.set_reshape _ _).trans ((View.set_slice_whole _ _).trans (set_half 0 _ rfl _))
theorem set_half2 : (((Memref.whole cc0_scratch2 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.set = H 0 :=
  (View.set_reshape _ _).trans ((View.set_slice_whole _ _).trans (set_half 0 _ rfl _))
theorem set_half5 : (((Memref.whole cc0_scratch5 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.set = H 1 :=
  (View.set_reshape _ _).trans ((View.set_slice_whole _ _).trans (set_half 1 _ rfl _))
theorem set_half6 : (((Memref.whole cc0_scratch6 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.set = H 1 :=
  (View.set_reshape _ _).trans ((View.set_slice_whole _ _).trans (set_half 1 _ rfl _))
theorem set_half1' : (((Memref.whole cc0_scratch1 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.set = H 1 :=
  (View.set_reshape _ _).trans ((View.set_slice_whole _ _).trans (set_half 1 _ rfl _))
theorem set_half2' : (((Memref.whole cc0_scratch2 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.set = H 1 :=
  (View.set_reshape _ _).trans ((View.set_slice_whole _ _).trans (set_half 1 _ rfl _))

/-- Copying a half of one buffer over the same half of another puts the source's elements there. -/
theorem copy_half31 (fd fs : Vec F S2x2048x512 .bf16) : ∀ i ∈ H 0,
    (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.write (Elt F) fd
      ((((Memref.whole cc0_scratch3 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.read (Elt F) fs) Finset.univ i = fs i := fun i hi =>
  (congrFun (View.write_read_eq_piecewise (Val := Elt F) (v := (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view) fd fs Finset.univ) i).trans
    (Finset.piecewise_eq_of_mem _ _ _ (by rw [View.setOn_univ, set_half1]; exact hi))
theorem copy_half42 (fd fs : Vec F S2x2048x512 .bf16) : ∀ i ∈ H 0,
    (((Memref.whole cc0_scratch2 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.write (Elt F) fd
      ((((Memref.whole cc0_scratch4 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view.read (Elt F) fs) Finset.univ i = fs i := fun i hi =>
  (congrFun (View.write_read_eq_piecewise (Val := Elt F) (v := (((Memref.whole cc0_scratch2 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512).view) fd fs Finset.univ) i).trans
    (Finset.piecewise_eq_of_mem _ _ _ (by rw [View.setOn_univ, set_half2]; exact hi))
theorem copy_half51 (fd fs : Vec F S2x2048x512 .bf16) : ∀ i ∈ H 1,
    (((Memref.whole cc0_scratch1 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.write (Elt F) fd
      ((((Memref.whole cc0_scratch5 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.read (Elt F) fs) Finset.univ i = fs i := fun i hi =>
  (congrFun (View.write_read_eq_piecewise (Val := Elt F) (v := (((Memref.whole cc0_scratch1 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view) fd fs Finset.univ) i).trans
    (Finset.piecewise_eq_of_mem _ _ _ (by rw [View.setOn_univ, set_half1']; exact hi))
theorem copy_half62 (fd fs : Vec F S2x2048x512 .bf16) : ∀ i ∈ H 1,
    (((Memref.whole cc0_scratch2 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.write (Elt F) fd
      ((((Memref.whole cc0_scratch6 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view.read (Elt F) fs) Finset.univ i = fs i := fun i hi =>
  (congrFun (View.write_read_eq_piecewise (Val := Elt F) (v := (((Memref.whole cc0_scratch2 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512).view) fd fs Finset.univ) i).trans
    (Finset.piecewise_eq_of_mem _ _ _ (by rw [View.setOn_univ, set_half2']; exact hi))

end HalvesOf

end Cert.RingAttn
-- ==== Proof.Body.lean ====
/-
  The parts of the kernel's body run, each from what it needs to what it leaves.
-/
module

public import proofs.«01_k».proof.Proof.Steps

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-! ## The devices named by the program -/

theorem dev1_eq (c : Dev nD) : (⟨k0_dev1 c, k0_dev1_lt c⟩ : Dev nD) = goto false c := by revert c; decide +kernel
theorem dev2_eq (c : Dev nD) : (⟨k0_dev2 c, k0_dev2_lt c⟩ : Dev nD) = goto true c := by revert c; decide +kernel
theorem dev3_eq (c : Dev nD) : (⟨k0_dev3 c, k0_dev3_lt c⟩ : Dev nD) = goto true c := by revert c; decide +kernel
theorem dev4_eq (c : Dev nD) : (⟨k0_dev4 c, k0_dev4_lt c⟩ : Dev nD) = goto false c := by revert c; decide +kernel
theorem dev5_eq (c : Dev nD) : (⟨k0_dev5 c, k0_dev5_lt c⟩ : Dev nD) = goto true c := by revert c; decide +kernel
theorem dev6_eq (c : Dev nD) : (⟨k0_dev6 c, k0_dev6_lt c⟩ : Dev nD) = goto false c := by revert c; decide +kernel
theorem dev7_eq (c : Dev nD) : (⟨k0_dev7 c, k0_dev7_lt c⟩ : Dev nD) = goto false c := by revert c; decide +kernel
theorem dev8_eq (c : Dev nD) : (⟨k0_dev8 c, k0_dev8_lt c⟩ : Dev nD) = goto true c := by revert c; decide +kernel
theorem dev9_eq (c : Dev nD) : (⟨k0_dev9 c, k0_dev9_lt c⟩ : Dev nD) = goto true c := by revert c; decide +kernel
theorem dev10_eq (c : Dev nD) : (⟨k0_dev10 c, k0_dev10_lt c⟩ : Dev nD) = goto true c := by revert c; decide +kernel
theorem dev11_eq (c : Dev nD) : (⟨k0_dev11 c, k0_dev11_lt c⟩ : Dev nD) = goto false c := by revert c; decide +kernel
theorem dev12_eq (c : Dev nD) : (⟨k0_dev12 c, k0_dev12_lt c⟩ : Dev nD) = goto false c := by revert c; decide +kernel

/-! ## Whole buffers and halves -/

/-- Copying a whole buffer over a whole buffer of the same type. -/
theorem copy_arg1 (fs : Vec F S4096x512 .f32) (fd : Vec F S4096x512 .f32) (i : S4096x512.Idx) :
    (Memref.whole cc0_stg0_0).view.write (Elt F) fd ((Memref.whole main_arg1).view.read (Elt F) fs) Finset.univ i = fs i :=
  congrFun (View.write_whole_univ (Val := Elt F) cc0_stg0_0 fd fs) i

/-- Part 1 at the kernel's buffers. -/
def part1 : Prog (TpuEff nD τ sig (Elt F) Λ₀ .tc) (Σ' (d0 : Dev nD) (v13 : BitVec 32), BitVec 32) :=
  k0_part1 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11

/-- PART 1: signal both neighbours, hear from both, stage the keys. -/
theorem wp_part1 (c : Dev nD) {Kt : (Σ' (d0 : Dev nD) (v13 : BitVec 32), BitVec 32) → sProp 𝕄} :
    iprop(records m K ∗ levAts L lv ∗ owing c (due.drop 0)
        ∗ dutyTok ER (cl (prv c) (.reg (1 : Fin 2))) 0 true ∗ dutyTok ER (cl (nxt c) (.reg (1 : Fin 2))) 0 false
        ∗ (∃ f, (c : Thread nD τ).loc cc0_scratch3 ↦{fullShare} f) ∗ (∃ f, (c : Thread nD τ).loc cc0_scratch4 ↦{fullShare} f)
        ∗ (∃ f, (c : Thread nD τ).loc cc0_scratch5 ↦{fullShare} f) ∗ (∃ f, (c : Thread nD τ).loc cc0_scratch6 ↦{fullShare} f)
        ∗ cred (tallyAt (cl c (.reg (1 : Fin 2))) () 2) ∗ atPos ER (cl c (.reg (1 : Fin 2))) 0 ∅ 0
        ∗ dutyTok ER (cl c (.dma (dS 17))) 0 false ∗ atPos ER (cl c (.dma (dS 17))) 0 ∅ 0
        ∗ ((c : Thread nD τ).loc main_arg1 ↦{fullShare} Ak m c) ∗ (∃ f, (c : Thread nD τ).loc cc0_stg0_0 ↦{fullShare} f)
        ∗ (∀ x, ∀ y, (owing c (due.drop 2) ∗ semVal (cl c (.reg (1 : Fin 2))) 0
            ∗ pay m c 19 0 false ∗ pay m c 19 0 true ∗ atPos ER (cl c (.dma (dS 17))) 1 ∅ 0 ∗ reached ER (cl c (.dma (dS 17))) 1 ∗ pay m c 17 0 false) -∗ Kt ⟨c, x, y⟩))
      ⊢ wp frame (wpE (defs₀ (F := F)) 𝒱₀ (c : Thread nD τ) none) Set.univ (part1 (F := F)) Kt := by
  unfold part1
  simp only [k0_part1_eq_skeleton]
  unfold k0_part1_skel
  simp only [semSignalWord, semWaitWord, Prog.lift, Prog.bind_op, Prog.bind_ret, Prog.pure_eq_ret, wp_deviceId]
  iintro ⟨#HR, #Hlev, HO, HtP, HtN, H7, H8, H9, H10, Hc, Hat, Htg, Hatg, Ha, ⟨%f, Hf⟩, Hk⟩
  iapply (wp_ping m K c false 17 true (dev1_eq c) rfl (by decide) (by decide) (due.drop 0) (due.drop 1) rfl) $$ [HO HtP H7 H8]
  · isplitr; · iexact HR
    isplitl [HO]; · iexact HO
    isplitl [HtP]; · iexact HtP
    iapply (show (iprop((∃ f, (nxt (prv c) : Thread nD τ).loc cc0_scratch3 ↦{fullShare} f) ∗ (∃ f, (nxt (prv c) : Thread nD τ).loc cc0_scratch4 ↦{fullShare} f)) : sProp 𝕄)
      ⊢ pay m (goto false c) (slot (.reg (1 : Fin 2))) 0 true from BIBase.Entails.rfl)
    rw [nxt_prv]
    isplitl [H7] <;> iassumption
  iintro HO
  iapply (wp_ping m K c true 17 false (dev2_eq c) rfl (by decide) (by decide) (due.drop 1) (due.drop 2) rfl) $$ [HO HtN H9 H10]
  · isplitr; · iexact HR
    isplitl [HO]; · iexact HO
    isplitl [HtN]; · iexact HtN
    iapply (show (iprop((∃ f, (prv (nxt c) : Thread nD τ).loc cc0_scratch5 ↦{fullShare} f) ∗ (∃ f, (prv (nxt c) : Thread nD τ).loc cc0_scratch6 ↦{fullShare} f)) : sProp 𝕄)
      ⊢ pay m (goto true c) (slot (.reg (1 : Fin 2))) 0 false from BIBase.Entails.rfl)
    rw [prv_nxt]
    isplitl [H9] <;> iassumption
  iintro HO
  iapply (wp_meet m K c 17 (1 : Fin 2) rfl rfl (by decide) (by decide) (due.drop 2) (by decide)) $$ [HO Hc Hat]
  · isplitr; · iexact HR
    isplitr; · iexact Hlev
    isplitl [Hc]; · iexact Hc
    isplitl [HO]; · iexact HO
    iexact Hat
  iintro ⟨HO, Hz, Hp1, Hp2⟩
  iapply (wp_stage m K c 0 (by decide) (src := Memref.whole main_arg1) (dst := Memref.whole cc0_stg0_0) rfl rfl (Ak m c)
    (View.set_whole _) (View.set_whole _) (fun i _ => copy_arg1 _ _ i) BIBase.Entails.rfl) $$ [Ha Hf Htg]
  · isplitr; · iexact HR
    isplitl [Ha]; · iexact Ha
    isplitl [Hf]; · iexact Hf
    isplitl [Htg]; · iexact Htg
    iapply (reach_at m K c 16 rfl); iexact HR
  iintro Hc
  iapply (wp_staged m K c 0 (by decide) rfl rfl (due.drop 2) (by decide)) $$ [HO Hc Hatg]
  · isplitr; · iexact HR
    isplitr; · iexact Hlev
    isplitl [Hc]; · iexact Hc
    isplitl [HO]; · iexact HO
    iexact Hatg
  iintro ⟨HO, Hatg, Hrg, Hpg⟩
  rw [wp_ret]
  imodintro
  iapply Hk
  isplitl [HO]; · iexact HO
  isplitl [Hz]; · iexact Hz
  isplitl [Hp1]; · iexact Hp1
  isplitl [Hp2]; · iexact Hp2
  isplitl [Hatg]; · iexact Hatg
  isplitl [Hrg]; · iexact Hrg
  iexact Hpg

end Cert.RingAttn
-- ==== Proof.Body2.lean ====
/-
  Parts 2 and 3 of the kernel's body: the keys and values packed and sent to both neighbours, the queries scaled, the
  first sweep.
-/
module

public import proofs.«01_k».proof.Proof.Pieces
public import proofs.«01_k».proof.Proof.Body

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-! ## Copies of whole buffers -/

theorem copy_arg2 (fs : Vec F S4096x512 .f32) (fd : Vec F S4096x512 .f32) (i : S4096x512.Idx) :
    (Memref.whole cc0_stg0_0).view.write (Elt F) fd ((Memref.whole main_arg2).view.read (Elt F) fs) Finset.univ i = fs i :=
  congrFun (View.write_whole_univ (Val := Elt F) cc0_stg0_0 fd fs) i
theorem copy_arg0 (fs : Vec F S4096x512 .f32) (fd : Vec F S4096x512 .f32) (i : S4096x512.Idx) :
    (Memref.whole cc0_stg0_0).view.write (Elt F) fd ((Memref.whole main_arg0).view.read (Elt F) fs) Finset.univ i = fs i :=
  congrFun (View.write_whole_univ (Val := Elt F) cc0_stg0_0 fd fs) i
theorem copy13 (fs : Vec F S2x2048x512 .bf16) (fd : Vec F S2x2048x512 .bf16) (i : S2x2048x512.Idx) :
    (Memref.whole cc0_scratch3).view.write (Elt F) fd ((Memref.whole cc0_scratch1).view.read (Elt F) fs) Finset.univ i = fs i :=
  congrFun (View.write_whole_univ (Val := Elt F) cc0_scratch3 fd fs) i
theorem copy15 (fs : Vec F S2x2048x512 .bf16) (fd : Vec F S2x2048x512 .bf16) (i : S2x2048x512.Idx) :
    (Memref.whole cc0_scratch5).view.write (Elt F) fd ((Memref.whole cc0_scratch1).view.read (Elt F) fs) Finset.univ i = fs i :=
  congrFun (View.write_whole_univ (Val := Elt F) cc0_scratch5 fd fs) i
theorem copy24 (fs : Vec F S2x2048x512 .bf16) (fd : Vec F S2x2048x512 .bf16) (i : S2x2048x512.Idx) :
    (Memref.whole cc0_scratch4).view.write (Elt F) fd ((Memref.whole cc0_scratch2).view.read (Elt F) fs) Finset.univ i = fs i :=
  congrFun (View.write_whole_univ (Val := Elt F) cc0_scratch4 fd fs) i
theorem copy26 (fs : Vec F S2x2048x512 .bf16) (fd : Vec F S2x2048x512 .bf16) (i : S2x2048x512.Idx) :
    (Memref.whole cc0_scratch6).view.write (Elt F) fd ((Memref.whole cc0_scratch2).view.read (Elt F) fs) Finset.univ i = fs i :=
  congrFun (View.write_whole_univ (Val := Elt F) cc0_scratch6 fd fs) i

/-! ## Packing a block half by half -/

/-- Half 0 of buffer 1 after the first rounded half is stored. -/
theorem first_half1 (x : Vec F S4096x512 .f32) (f : Vec F S2x2048x512 .bf16) (j : S1x2048x512.Idx) :
    ((Memref.whole cc0_scratch1).access (Rect.unit (s := S2x2048x512) ![0, 0, 0] S1x2048x512.size inb_S2x2048x512_S1x2048x512_0_0_0)).write (Elt F) f (k0_pay1 ((Memref.whole cc0_stg0_0).view.readAt (Elt F) (Rect.unit (s := S4096x512) ![0, 0] S2048x512.size inb_S4096x512_S2048x512_0_0).toLoadRect x)) Finset.univ (ix3 0 (j 1) (j 2))
      = k0_pay1 (rows 0 x) j := by
  have h := write_at (Val := Elt F) cc0_scratch1 (Rect.unit (s := S2x2048x512) ![0, 0, 0] S1x2048x512.size inb_S2x2048x512_S1x2048x512_0_0_0) f (k0_pay1 ((Memref.whole cc0_stg0_0).view.readAt (Elt F) (Rect.unit (s := S4096x512) ![0, 0] S2048x512.size inb_S4096x512_S2048x512_0_0).toLoadRect x)) j
  rw [show _ = ix3 0 (j 1) (j 2) from idx_half 0 ![0, 0, 0] rfl inb_S2x2048x512_S1x2048x512_0_0_0 j] at h
  refine h.trans (congrArg (fun y => k0_pay1 y j) ?_)
  exact read_rows 0 ![0, 0] rfl _ x

/-- After the second rounded half is stored too, buffer 1 holds the packed block. -/
theorem both_halves1 (x : Vec F S4096x512 .f32) (f : Vec F S2x2048x512 .bf16) (hf : ∀ j : S1x2048x512.Idx, f (ix3 0 (j 1) (j 2)) = k0_pay1 (rows 0 x) j) :
    ((Memref.whole cc0_scratch1).access (Rect.unit (s := S2x2048x512) ![1, 0, 0] S1x2048x512.size inb_S2x2048x512_S1x2048x512_1_0_0)).write (Elt F) f (k0_pay1 ((Memref.whole cc0_stg0_0).view.readAt (Elt F) (Rect.unit (s := S4096x512) ![2048, 0] S2048x512.size inb_S4096x512_S2048x512_2048_0).toLoadRect x)) Finset.univ
      = packed x := by
  refine packed_of_halves x _ (fun j => ?_) (fun j => ?_)
  · refine (write_off (Val := Elt F) cc0_scratch1 (Rect.unit (s := S2x2048x512) ![1, 0, 0] S1x2048x512.size inb_S2x2048x512_S1x2048x512_1_0_0) f _ ?_).trans (hf j)
    intro h
    rw [show _ = H 1 from set_half 1 ![1, 0, 0] rfl inb_S2x2048x512_S1x2048x512_1_0_0, mem_H] at h
    exact absurd h (show (0 : Fin 2) ≠ 1 by decide)
  · have h := write_at (Val := Elt F) cc0_scratch1 (Rect.unit (s := S2x2048x512) ![1, 0, 0] S1x2048x512.size inb_S2x2048x512_S1x2048x512_1_0_0) f (k0_pay1 ((Memref.whole cc0_stg0_0).view.readAt (Elt F) (Rect.unit (s := S4096x512) ![2048, 0] S2048x512.size inb_S4096x512_S2048x512_2048_0).toLoadRect x)) j
    rw [show _ = ix3 1 (j 1) (j 2) from idx_half 1 ![1, 0, 0] rfl inb_S2x2048x512_S1x2048x512_1_0_0 j] at h
    refine h.trans (congrArg (fun y => k0_pay1 y j) ?_)
    exact read_rows 1 ![2048, 0] rfl _ x

/-- Half 0 of buffer 2 after the first rounded half is stored. -/
theorem first_half2 (x : Vec F S4096x512 .f32) (f : Vec F S2x2048x512 .bf16) (j : S1x2048x512.Idx) :
    ((Memref.whole cc0_scratch2).access (Rect.unit (s := S2x2048x512) ![0, 0, 0] S1x2048x512.size inb_S2x2048x512_S1x2048x512_0_0_0)).write (Elt F) f (k0_pay1 ((Memref.whole cc0_stg0_0).view.readAt (Elt F) (Rect.unit (s := S4096x512) ![0, 0] S2048x512.size inb_S4096x512_S2048x512_0_0).toLoadRect x)) Finset.univ (ix3 0 (j 1) (j 2))
      = k0_pay1 (rows 0 x) j := by
  have h := write_at (Val := Elt F) cc0_scratch2 (Rect.unit (s := S2x2048x512) ![0, 0, 0] S1x2048x512.size inb_S2x2048x512_S1x2048x512_0_0_0) f (k0_pay1 ((Memref.whole cc0_stg0_0).view.readAt (Elt F) (Rect.unit (s := S4096x512) ![0, 0] S2048x512.size inb_S4096x512_S2048x512_0_0).toLoadRect x)) j
  rw [show _ = ix3 0 (j 1) (j 2) from idx_half 0 ![0, 0, 0] rfl inb_S2x2048x512_S1x2048x512_0_0_0 j] at h
  refine h.trans (congrArg (fun y => k0_pay1 y j) ?_)
  exact read_rows 0 ![0, 0] rfl _ x

/-- After the second rounded half is stored too, buffer 2 holds the packed block. -/
theorem both_halves2 (x : Vec F S4096x512 .f32) (f : Vec F S2x2048x512 .bf16) (hf : ∀ j : S1x2048x512.Idx, f (ix3 0 (j 1) (j 2)) = k0_pay1 (rows 0 x) j) :
    ((Memref.whole cc0_scratch2).access (Rect.unit (s := S2x2048x512) ![1, 0, 0] S1x2048x512.size inb_S2x2048x512_S1x2048x512_1_0_0)).write (Elt F) f (k0_pay1 ((Memref.whole cc0_stg0_0).view.readAt (Elt F) (Rect.unit (s := S4096x512) ![2048, 0] S2048x512.size inb_S4096x512_S2048x512_2048_0).toLoadRect x)) Finset.univ
      = packed x := by
  refine packed_of_halves x _ (fun j => ?_) (fun j => ?_)
  · refine (write_off (Val := Elt F) cc0_scratch2 (Rect.unit (s := S2x2048x512) ![1, 0, 0] S1x2048x512.size inb_S2x2048x512_S1x2048x512_1_0_0) f _ ?_).trans (hf j)
    intro h
    rw [show _ = H 1 from set_half 1 ![1, 0, 0] rfl inb_S2x2048x512_S1x2048x512_1_0_0, mem_H] at h
    exact absurd h (show (0 : Fin 2) ≠ 1 by decide)
  · have h := write_at (Val := Elt F) cc0_scratch2 (Rect.unit (s := S2x2048x512) ![1, 0, 0] S1x2048x512.size inb_S2x2048x512_S1x2048x512_1_0_0) f (k0_pay1 ((Memref.whole cc0_stg0_0).view.readAt (Elt F) (Rect.unit (s := S4096x512) ![2048, 0] S2048x512.size inb_S4096x512_S2048x512_2048_0).toLoadRect x)) j
    rw [show _ = ix3 1 (j 1) (j 2) from idx_half 1 ![1, 0, 0] rfl inb_S2x2048x512_S1x2048x512_1_0_0 j] at h
    refine h.trans (congrArg (fun y => k0_pay1 y j) ?_)
    exact read_rows 1 ![2048, 0] rfl _ x

/-- Part 2 at the kernel's buffers. -/
def part2 (d0 : Dev nD) (v13 : BitVec 32) (v24 : BitVec 32) : Prog (TpuEff nD τ sig (Elt F) Λ₀ .tc) (PUnit) :=
  k0_part2 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13 v24

set_option maxHeartbeats 2000000 in
/-- PART 2: the keys packed and sent to both neighbours; the values staged, their first half packed. -/
theorem wp_part2 (c : Dev nD) (x y : BitVec 32) {Kt : PUnit → sProp 𝕄} :
    iprop(records m K ∗ levAts L lv ∗ owing c (due.drop 2)
        ∗ ((c : Thread nD τ).loc cc0_stg0_0 ↦{fullShare} Ak m c) ∗ (∃ f, (c : Thread nD τ).loc cc0_scratch1 ↦{fullShare} f) ∗ (∃ f, (c : Thread nD τ).loc cc0_scratch2 ↦{fullShare} f)
        ∗ (∃ f, (nxt c : Thread nD τ).loc cc0_scratch3 ↦{fullShare} f) ∗ (∃ f, (prv c : Thread nD τ).loc cc0_scratch5 ↦{fullShare} f)
        ∗ dutyTok ER (cl c (.dma (dS 1))) 0 false ∗ dutyTok ER (cl (nxt c) (.dma (dS 9))) 0 false
        ∗ dutyTok ER (cl c (.dma (dS 3))) 0 false ∗ dutyTok ER (cl (prv c) (.dma (dS 11))) 0 false
        ∗ dutyTok ER (cl c (.dma (dS 17))) 1 false ∗ atPos ER (cl c (.dma (dS 17))) 1 ∅ 0 ∗ reached ER (cl c (.dma (dS 17))) 1
        ∗ ((c : Thread nD τ).loc main_arg2 ↦{fullShare} Av m c)
        ∗ ((owing c (due.drop 4) ∗ cred (tallyAt (cl c (.dma (dS 1))) () NW) ∗ cred (tallyAt (cl c (.dma (dS 3))) () NW)
            ∗ ((c : Thread nD τ).loc cc0_scratch1 ↦{fullShare.right.right} KP m c)
            ∗ (∃ f, ⌜∀ j : S1x2048x512.Idx, f (ix3 0 (j 1) (j 2)) = k0_pay1 (rows 0 (Av m c)) j⌝ ∗ ((c : Thread nD τ).loc cc0_scratch2 ↦{fullShare} f))
            ∗ atPos ER (cl c (.dma (dS 17))) 2 ∅ 0 ∗ reached ER (cl c (.dma (dS 17))) 2 ∗ ((c : Thread nD τ).loc cc0_stg0_0 ↦{fullShare} Av m c) ∗ ((c : Thread nD τ).loc main_arg2 ↦{fullShare} Av m c)) -∗ Kt ⟨⟩))
      ⊢ wp frame (wpE (defs₀ (F := F)) 𝒱₀ (c : Thread nD τ) none) Set.univ (part2 (F := F) c x y) Kt := by
  unfold part2
  simp only [k0_part2_eq_skeleton]
  unfold k0_part2_skel
  simp only [Prog.lift, Prog.bind_op, Prog.bind_ret, Prog.pure_eq_ret]
  iintro ⟨#HR, #Hlev, HO, Hf, ⟨%f1, H1⟩, ⟨%f2, H2⟩, ⟨%g3, G3⟩, ⟨%g5, G5⟩, Ht1, Hu1, Ht3, Hu3, Htg, Hatg, Hrg, Ha, Hk⟩
  iapply (wp_load 𝒱₀ (c : Thread nD τ) none Set.univ (m := Memref.whole cc0_stg0_0) (Finset.subset_univ _)) $$ Hf
  iintro Hf
  iapply (wp_load 𝒱₀ (c : Thread nD τ) none Set.univ (m := Memref.whole cc0_scratch1) (Finset.subset_univ _)) $$ H1
  iintro H1
  iapply (wp_store 𝒱₀ (c : Thread nD τ) none Set.univ (m := Memref.whole cc0_scratch1) (r := (Rect.unit (s := S2x2048x512) ![0, 0, 0] S1x2048x512.size inb_S2x2048x512_S1x2048x512_0_0_0)) (Finset.subset_univ _)) $$ H1
  iintro H1
  iapply (wp_load 𝒱₀ (c : Thread nD τ) none Set.univ (m := Memref.whole cc0_stg0_0) (Finset.subset_univ _)) $$ Hf
  iintro Hf
  iapply (wp_load 𝒱₀ (c : Thread nD τ) none Set.univ (m := Memref.whole cc0_scratch1) (Finset.subset_univ _)) $$ H1
  iintro H1
  iapply (wp_store 𝒱₀ (c : Thread nD τ) none Set.univ (m := Memref.whole cc0_scratch1) (r := (Rect.unit (s := S2x2048x512) ![1, 0, 0] S1x2048x512.size inb_S2x2048x512_S1x2048x512_1_0_0)) (Finset.subset_univ _)) $$ H1
  iintro H1
  have e1 := both_halves1 (Ak m c) _ (first_half1 (Ak m c) f1)
  ihave H1 : iprop((c : Thread nD τ).loc cc0_scratch1 ↦{fullShare} packed (Ak m c)) $$ [H1]
  · rw [← e1]
    iexact H1
  ihave H1 := (halve fullShare) $$ H1
  icases H1 with ⟨H1l, H1⟩
  ihave H1 := (halve fullShare.right) $$ H1
  icases H1 with ⟨H1m, H1r⟩
  iapply (wp_push m K c true 0 8 (dev3_eq c) (src := Memref.whole cc0_scratch1) (dst := Memref.whole cc0_scratch3) (sS := (((cc0_scratch8.slice (Rect.unit (s := S8) ![0] S1.size inb_S8_S1_0)).squeeze S_ squeezes_S1_S_).sem)) (sR := (((cc0_scratch9.slice (Rect.unit (s := S8) ![0] S1.size inb_S8_S1_0)).squeeze S_ squeezes_S1_S_).sem)) (dS 1) (dS 9) rfl rfl rfl rfl (by decide) (by decide) NW rfl rfl rfl
    (due.drop 2) (due.drop 3) rfl (q := fullShare.left) (KP m c) (View.set_whole _) (View.set_whole _) (fun i _ => copy13 _ _ i)
    BIBase.Entails.rfl
    (BIBase.Entails.of_eq (show _ = (((goto true c : Thread nD τ).loc cc0_scratch3 ↦{fullShare} KP m (prv (nxt c))) : sProp 𝕄) by rw [prv_nxt]))) $$ [HO H1l G3 Ht1 Hu1]
  · isplitr; · iexact HR
    isplitl [HO]; · iexact HO
    isplitl [H1l]; · iexact H1l
    isplitl [G3]; · iexact G3
    isplitl [Ht1]; · iexact Ht1
    iexact Hu1
  iintro ⟨Hc1, HO⟩
  iapply (wp_push m K c false 2 10 (dev4_eq c) (src := Memref.whole cc0_scratch1) (dst := Memref.whole cc0_scratch5) (sS := (((cc0_scratch8.slice (Rect.unit (s := S8) ![2] S1.size inb_S8_S1_2)).squeeze S_ squeezes_S1_S_).sem)) (sR := (((cc0_scratch9.slice (Rect.unit (s := S8) ![2] S1.size inb_S8_S1_2)).squeeze S_ squeezes_S1_S_).sem)) (dS 3) (dS 11) rfl rfl rfl rfl (by decide) (by decide) NW rfl rfl rfl
    (due.drop 3) (due.drop 4) rfl (q := fullShare.right.left) (KP m c) (View.set_whole _) (View.set_whole _) (fun i _ => copy15 _ _ i)
    BIBase.Entails.rfl
    (BIBase.Entails.of_eq (show _ = (((goto false c : Thread nD τ).loc cc0_scratch5 ↦{fullShare} KP m (nxt (prv c))) : sProp 𝕄) by rw [nxt_prv]))) $$ [HO H1m G5 Ht3 Hu3]
  · isplitr; · iexact HR
    isplitl [HO]; · iexact HO
    isplitl [H1m]; · iexact H1m
    isplitl [G5]; · iexact G5
    isplitl [Ht3]; · iexact Ht3
    iexact Hu3
  iintro ⟨Hc3, HO⟩
  iapply (wp_stage m K c 1 (by decide) (src := Memref.whole main_arg2) (dst := Memref.whole cc0_stg0_0) rfl rfl (Av m c)
    (View.set_whole _) (View.set_whole _) (fun i _ => copy_arg2 _ _ i) BIBase.Entails.rfl) $$ [Ha Hf Htg Hrg]
  · isplitr; · iexact HR
    isplitl [Ha]; · iexact Ha
    isplitl [Hf]; · iexact Hf
    isplitl [Htg]; · iexact Htg
    iexact Hrg
  iintro Hc
  iapply (wp_staged m K c 1 (by decide) rfl rfl (due.drop 4) (by decide)) $$ [HO Hc Hatg]
  · isplitr; · iexact HR
    isplitr; · iexact Hlev
    isplitl [Hc]; · iexact Hc
    isplitl [HO]; · iexact HO
    iexact Hatg
  iintro ⟨HO, Hatg, Hrg, Hpg⟩
  ihave Hpg' := (show pay m c 17 1 false ⊢ (iprop(((c : Thread nD τ).loc cc0_stg0_0 ↦{fullShare} Av m c) ∗ ((c : Thread nD τ).loc main_arg2 ↦{fullShare} Av m c)) : sProp 𝕄) from BIBase.Entails.rfl) $$ Hpg
  icases Hpg' with ⟨Hf, Ha⟩
  iapply (wp_load 𝒱₀ (c : Thread nD τ) none Set.univ (m := Memref.whole cc0_stg0_0) (Finset.subset_univ _)) $$ Hf
  iintro Hf
  iapply (wp_load 𝒱₀ (c : Thread nD τ) none Set.univ (m := Memref.whole cc0_scratch2) (Finset.subset_univ _)) $$ H2
  iintro H2
  iapply (wp_store 𝒱₀ (c : Thread nD τ) none Set.univ (m := Memref.whole cc0_scratch2) (r := (Rect.unit (s := S2x2048x512) ![0, 0, 0] S1x2048x512.size inb_S2x2048x512_S1x2048x512_0_0_0)) (Finset.subset_univ _)) $$ H2
  iintro H2
  rw [wp_ret]
  imodintro
  iapply Hk
  isplitl [HO]; · iexact HO
  isplitl [Hc1]; · iexact Hc1
  isplitl [Hc3]; · iexact Hc3
  isplitl [H1r]; · iexact H1r
  isplitl [H2]
  · iexists _
    isplitr; · ipureintro; exact first_half2 (Av m c) f2
    iexact H2
  isplitl [Hatg]; · iexact Hatg
  isplitl [Hrg]; · iexact Hrg
  isplitl [Hf] <;> iassumption

end Cert.RingAttn
-- ==== Proof.Body3.lean ====
/-
  Part 3 of the kernel's body: the values packed and sent, the queries scaled, the first sweep; and what every sweep
  leaves in the accumulators.
-/
module

public import proofs.«01_k».proof.Proof.Body2

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-! ## What the sweeps leave -/

/-- The scaled queries of device `c`. -/
def Qs (c : Dev nD) : Vec F S4096x512 .bf16 := qbf (Aq m c)
/-- The accumulators after each of the first seven sweeps: both halves of the device's own keys and values, -/
def acc1 (c : Dev nD) : Acc F := start0 (Qs m c) (half 0 (KP m c)) (half 0 (VP m c))
def acc2 (c : Dev nD) : Acc F := more (Qs m c) (half 1 (KP m c)) (half 1 (VP m c)) (acc1 m c)
/-- both halves of the previous device's, -/
def acc3 (c : Dev nD) : Acc F := more (Qs m c) (half 0 (KP m (prv c))) (half 0 (VP m (prv c))) (acc2 m c)
def acc4 (c : Dev nD) : Acc F := more (Qs m c) (half 1 (KP m (prv c))) (half 1 (VP m (prv c))) (acc3 m c)
/-- both halves of the next device's, -/
def acc5 (c : Dev nD) : Acc F := more (Qs m c) (half 0 (KP m (nxt c))) (half 0 (VP m (nxt c))) (acc4 m c)
def acc6 (c : Dev nD) : Acc F := more (Qs m c) (half 1 (KP m (nxt c))) (half 1 (VP m (nxt c))) (acc5 m c)
/-- the first half of the opposite device's, reached backwards; -/
def acc7 (c : Dev nD) : Acc F := more (Qs m c) (half 0 (KP m (prv (prv c)))) (half 0 (VP m (prv (prv c)))) (acc6 m c)
/-- and the result, after the second half of the opposite device's, reached forwards. -/
def outAt (c : Dev nD) : Vec F S4096x512 .f32 := finish (Qs m c) (half 1 (KP m (nxt (nxt c)))) (half 1 (VP m (nxt (nxt c)))) (acc7 m c)

/-- The loop of the first sweep is `firstBody` at the kernel's buffers. -/
theorem sweep1_eq (d0 : Dev nD) (v13 : BitVec 32) (v24 : BitVec 32) : k0_t1_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13 v24
    = firstBody (F := F) k0_t1_loop k0_off1 k0_off2 k0_off1_inb k0_off2_inb ![0, 0, 0] inb_S2x2048x512_S1x2048x512_0_0_0 (Memref.whole cc0_scratch1) (Memref.whole cc0_scratch2) := rfl

theorem zeros2 : (![0, 0] : Fin 2 → ℕ) = fun _ => 0 := by funext a; fin_cases a <;> rfl

/-- Storing the scaled queries over the whole of their buffer. -/
theorem stored_q (x : Vec F S4096x512 .f32) (f : Vec F S4096x512 .bf16) :
    ((Memref.whole cc0_scratch0).access (Rect.unit (s := S4096x512) ![0, 0] S4096x512.size inb_S4096x512_S4096x512_0_0)).write (Elt F) f (k0_pay5 ((Memref.whole cc0_stg0_0).view.readAt (Elt F) (Rect.unit (s := S4096x512) ![0, 0] S4096x512.size inb_S4096x512_S4096x512_0_0).toLoadRect x)) Finset.univ = k0_pay5 x :=
  (Memref.write_access_unit_zero_univ (Elt F) cc0_scratch0 zeros2 _ _ _).trans
    (congrArg k0_pay5 (Memref.readAt_unit_zero (Elt F) cc0_stg0_0 zeros2 _ x))

/-- Part 3 at the kernel's buffers. -/
def part3 (d0 : Dev nD) (v13 : BitVec 32) (v24 : BitVec 32) : Prog (TpuEff nD τ sig (Elt F) Λ₀ .tc) (Σ' (c1_i32_60 : BitVec 32), BitVec 32) :=
  k0_part3 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13 v24

set_option maxHeartbeats 2000000 in
/-- PART 3: the values packed and sent to both neighbours; the queries staged and scaled; the first sweep. -/
theorem wp_part3 (c : Dev nD) (x y : BitVec 32) {Kt : (Σ' (c1_i32_60 : BitVec 32), BitVec 32) → sProp 𝕄} :
    iprop(records m K ∗ levAts L lv ∗ owing c (due.drop 4)
        ∗ ((c : Thread nD τ).loc cc0_stg0_0 ↦{fullShare} Av m c) ∗ (∃ f, ⌜∀ j : S1x2048x512.Idx, f (ix3 0 (j 1) (j 2)) = k0_pay1 (rows 0 (Av m c)) j⌝ ∗ ((c : Thread nD τ).loc cc0_scratch2 ↦{fullShare} f))
        ∗ (∃ f, (nxt c : Thread nD τ).loc cc0_scratch4 ↦{fullShare} f) ∗ (∃ f, (prv c : Thread nD τ).loc cc0_scratch6 ↦{fullShare} f)
        ∗ dutyTok ER (cl c (.dma (dS 2))) 0 false ∗ dutyTok ER (cl (nxt c) (.dma (dS 10))) 0 false
        ∗ dutyTok ER (cl c (.dma (dS 4))) 0 false ∗ dutyTok ER (cl (prv c) (.dma (dS 12))) 0 false
        ∗ dutyTok ER (cl c (.dma (dS 17))) 2 false ∗ atPos ER (cl c (.dma (dS 17))) 2 ∅ 0 ∗ reached ER (cl c (.dma (dS 17))) 2
        ∗ ((c : Thread nD τ).loc main_arg0 ↦{fullShare} Aq m c) ∗ (∃ f, (c : Thread nD τ).loc cc0_scratch0 ↦{fullShare} f) ∗ (∃ f, (c : Thread nD τ).loc cc0_scratch7 ↦{fullShare} f) ∗ ((c : Thread nD τ).loc cc0_scratch1 ↦{fullShare.right.right} KP m c)
        ∗ ((owing c (due.drop 6) ∗ cred (tallyAt (cl c (.dma (dS 2))) () NW) ∗ cred (tallyAt (cl c (.dma (dS 4))) () NW)
            ∗ ((c : Thread nD τ).loc cc0_scratch1 ↦{fullShare.right.right} KP m c) ∗ ((c : Thread nD τ).loc cc0_scratch2 ↦{fullShare.right.right} VP m c)
            ∗ semVal (cl c (.dma (dS 17))) 0 ∗ ((c : Thread nD τ).loc main_arg0 ↦{fullShare} Aq m c)
            ∗ ((c : Thread nD τ).loc cc0_scratch0 ↦{fullShare} Qs m c) ∗ ((c : Thread nD τ).loc cc0_scratch7 ↦{fullShare} (acc1 m c).2) ∗ ((c : Thread nD τ).loc cc0_stg0_0 ↦{fullShare} (acc1 m c).1)) -∗ Kt ⟨1#32, 1#32⟩))
      ⊢ wp frame (wpE (defs₀ (F := F)) 𝒱₀ (c : Thread nD τ) none) Set.univ (part3 (F := F) c x y) Kt := by
  unfold part3
  simp only [k0_part3_eq_skeleton]
  unfold k0_part3_skel
  simp only [Prog.lift, Prog.bind_op, Prog.bind_ret, Prog.pure_eq_ret]
  iintro ⟨#HR, #Hlev, HO, Hf, ⟨%f2, %hf2, H2⟩, ⟨%g4, G4⟩, ⟨%g6, G6⟩, Ht2, Hu2, Ht4, Hu4, Htg, Hatg, Hrg, Ha, ⟨%f0, H0⟩, ⟨%f7, H7⟩, H1, Hk⟩
  iapply (wp_load 𝒱₀ (c : Thread nD τ) none Set.univ (m := Memref.whole cc0_stg0_0) (Finset.subset_univ _)) $$ Hf
  iintro Hf
  iapply (wp_load 𝒱₀ (c : Thread nD τ) none Set.univ (m := Memref.whole cc0_scratch2) (Finset.subset_univ _)) $$ H2
  iintro H2
  iapply (wp_store 𝒱₀ (c : Thread nD τ) none Set.univ (m := Memref.whole cc0_scratch2) (r := (Rect.unit (s := S2x2048x512) ![1, 0, 0] S1x2048x512.size inb_S2x2048x512_S1x2048x512_1_0_0)) (Finset.subset_univ _)) $$ H2
  iintro H2
  have e2 := both_halves2 (Av m c) f2 hf2
  ihave H2 : iprop((c : Thread nD τ).loc cc0_scratch2 ↦{fullShare} packed (Av m c)) $$ [H2]
  · rw [← e2]
    iexact H2
  ihave H2 := (halve fullShare) $$ H2
  icases H2 with ⟨H2l, H2⟩
  ihave H2 := (halve fullShare.right) $$ H2
  icases H2 with ⟨H2m, H2⟩
  iapply (wp_push m K c true 1 9 (dev5_eq c) (src := Memref.whole cc0_scratch2) (dst := Memref.whole cc0_scratch4) (sS := (((cc0_scratch8.slice (Rect.unit (s := S8) ![1] S1.size inb_S8_S1_1)).squeeze S_ squeezes_S1_S_).sem)) (sR := (((cc0_scratch9.slice (Rect.unit (s := S8) ![1] S1.size inb_S8_S1_1)).squeeze S_ squeezes_S1_S_).sem)) (dS 2) (dS 10) rfl rfl rfl rfl (by decide) (by decide) NW rfl rfl rfl
    (due.drop 4) (due.drop 5) rfl (q := fullShare.left) (VP m c) (View.set_whole _) (View.set_whole _) (fun i _ => copy24 _ _ i)
    BIBase.Entails.rfl
    (BIBase.Entails.of_eq (show _ = (((goto true c : Thread nD τ).loc cc0_scratch4 ↦{fullShare} VP m (prv (nxt c))) : sProp 𝕄) by rw [prv_nxt]))) $$ [HO H2l G4 Ht2 Hu2]
  · isplitr; · iexact HR
    isplitl [HO]; · iexact HO
    isplitl [H2l]; · iexact H2l
    isplitl [G4]; · iexact G4
    isplitl [Ht2]; · iexact Ht2
    iexact Hu2
  iintro ⟨Hc2, HO⟩
  iapply (wp_push m K c false 3 11 (dev6_eq c) (src := Memref.whole cc0_scratch2) (dst := Memref.whole cc0_scratch6) (sS := (((cc0_scratch8.slice (Rect.unit (s := S8) ![3] S1.size inb_S8_S1_3)).squeeze S_ squeezes_S1_S_).sem)) (sR := (((cc0_scratch9.slice (Rect.unit (s := S8) ![3] S1.size inb_S8_S1_3)).squeeze S_ squeezes_S1_S_).sem)) (dS 4) (dS 12) rfl rfl rfl rfl (by decide) (by decide) NW rfl rfl rfl
    (due.drop 5) (due.drop 6) rfl (q := fullShare.right.left) (VP m c) (View.set_whole _) (View.set_whole _) (fun i _ => copy26 _ _ i)
    BIBase.Entails.rfl
    (BIBase.Entails.of_eq (show _ = (((goto false c : Thread nD τ).loc cc0_scratch6 ↦{fullShare} VP m (nxt (prv c))) : sProp 𝕄) by rw [nxt_prv]))) $$ [HO H2m G6 Ht4 Hu4]
  · isplitr; · iexact HR
    isplitl [HO]; · iexact HO
    isplitl [H2m]; · iexact H2m
    isplitl [G6]; · iexact G6
    isplitl [Ht4]; · iexact Ht4
    iexact Hu4
  iintro ⟨Hc4, HO⟩
  iapply (wp_stage m K c 2 (by decide) (src := Memref.whole main_arg0) (dst := Memref.whole cc0_stg0_0) rfl rfl (Aq m c)
    (View.set_whole _) (View.set_whole _) (fun i _ => copy_arg0 _ _ i) BIBase.Entails.rfl) $$ [Ha Hf Htg Hrg]
  · isplitr; · iexact HR
    isplitl [Ha]; · iexact Ha
    isplitl [Hf]; · iexact Hf
    isplitl [Htg]; · iexact Htg
    iexact Hrg
  iintro Hc
  iapply (wp_staged m K c 2 (by decide) rfl rfl (due.drop 6) (by decide)) $$ [HO Hc Hatg]
  · isplitr; · iexact HR
    isplitr; · iexact Hlev
    isplitl [Hc]; · iexact Hc
    isplitl [HO]; · iexact HO
    iexact Hatg
  iintro ⟨HO, Hatg, Hrg, Hpg⟩
  ihave Hpg' := (show pay m c 17 2 false ⊢ (iprop(((c : Thread nD τ).loc cc0_stg0_0 ↦{fullShare} Aq m c) ∗ ((c : Thread nD τ).loc main_arg0 ↦{fullShare} Aq m c)) : sProp 𝕄) from BIBase.Entails.rfl) $$ Hpg
  icases Hpg' with ⟨Hf, Ha⟩
  imod (close_three m K c) $$ [Hatg] with Hz
  · isplitr; · iexact HR
    iexact Hatg
  iapply (wp_load 𝒱₀ (c : Thread nD τ) none Set.univ (m := Memref.whole cc0_stg0_0) (Finset.subset_univ _)) $$ Hf
  iintro Hf
  iapply (wp_load 𝒱₀ (c : Thread nD τ) none Set.univ (m := Memref.whole cc0_scratch0) (Finset.subset_univ _)) $$ H0
  iintro H0
  iapply (wp_store 𝒱₀ (c : Thread nD τ) none Set.univ (m := Memref.whole cc0_scratch0) (r := (Rect.unit (s := S4096x512) ![0, 0] S4096x512.size inb_S4096x512_S4096x512_0_0)) (Finset.subset_univ _)) $$ H0
  iintro H0
  have e0 := stored_q (Aq m c) f0
  ihave H0 : iprop((c : Thread nD τ).loc cc0_scratch0 ↦{fullShare} k0_pay5 (Aq m c)) $$ [H0]
  · rw [← e0]
    iexact H0
  rw [wp_bind]
  rw [sweep1_eq]
  iapply (wp_first c k0_t1_loop k0_t1_ok (by decide) k0_off1 k0_off2 k0_off1_inb k0_off2_inb k0_off1_eq k0_off2_eq ![0, 0, 0] inb_S2x2048x512_S1x2048x512_0_0_0
    (Memref.whole cc0_scratch1) (Memref.whole cc0_scratch2) (half 0 (KP m c)) (half 0 (VP m c)) (Sk := Finset.univ) (Sv := Finset.univ) (Finset.subset_univ _) (Finset.subset_univ _)
    (fk := KP m c) (fv := VP m c) (read_half 0 ![0, 0, 0] rfl _ _) (read_half 0 ![0, 0, 0] rfl _ _) (Qs m c) (Aq m c) f7)
  unfold sweepHeld
  isplitl [H0 H1 H2 H7 Hf]
  · isplitl [H0]; · iexact H0
    isplitl [H1]; · iexact H1
    isplitl [H2]; · iexact H2
    isplitl [H7]; · iexact H7
    iexact Hf
  iintro ⟨H0, H1, H2, H7, Hf⟩
  rw [wp_ret]
  imodintro
  iapply Hk
  isplitl [HO]; · iexact HO
  isplitl [Hc2]; · iexact Hc2
  isplitl [Hc4]; · iexact Hc4
  isplitl [H1]; · iexact H1
  isplitl [H2]; · iexact H2
  isplitl [Hz]; · iexact Hz
  isplitl [Ha]; · iexact Ha
  isplitl [H0]; · iexact H0
  isplitl [H7]; · iexact H7
  iexact Hf

end Cert.RingAttn
-- ==== Proof.Body4.lean ====
/-
  Parts 4 and 5 of the kernel's body: the second sweep, the waits for the first transfers, the credits, and the first
  transfer of the second round.
-/
module

public import proofs.«01_k».proof.Proof.Body3

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-! ## A half's rectangle lies in the half -/

theorem within3_0 : (Memref.whole cc0_scratch3 : Memref sig .tc .vmem S2x2048x512 .bf16).view.setOn (Rect.unit (s := S2x2048x512) ![0, 0, 0] S1x2048x512.size inb_S2x2048x512_S1x2048x512_0_0_0).toLoadRect.set ⊆ H 0 := fun i hi => by
  obtain ⟨x, hx, rfl⟩ := Finset.mem_map.mp hi
  have hx' : x ∈ (Rect.unit (s := S2x2048x512) ![0, 0, 0] S1x2048x512.size inb_S2x2048x512_S1x2048x512_0_0_0).set := hx
  rw [show _ = H 0 from set_half 0 ![0, 0, 0] rfl inb_S2x2048x512_S1x2048x512_0_0_0] at hx'
  exact hx'
theorem within4_0 : (Memref.whole cc0_scratch4 : Memref sig .tc .vmem S2x2048x512 .bf16).view.setOn (Rect.unit (s := S2x2048x512) ![0, 0, 0] S1x2048x512.size inb_S2x2048x512_S1x2048x512_0_0_0).toLoadRect.set ⊆ H 0 := fun i hi => by
  obtain ⟨x, hx, rfl⟩ := Finset.mem_map.mp hi
  have hx' : x ∈ (Rect.unit (s := S2x2048x512) ![0, 0, 0] S1x2048x512.size inb_S2x2048x512_S1x2048x512_0_0_0).set := hx
  rw [show _ = H 0 from set_half 0 ![0, 0, 0] rfl inb_S2x2048x512_S1x2048x512_0_0_0] at hx'
  exact hx'
theorem within3_1 : (Memref.whole cc0_scratch3 : Memref sig .tc .vmem S2x2048x512 .bf16).view.setOn (Rect.unit (s := S2x2048x512) ![1, 0, 0] S1x2048x512.size inb_S2x2048x512_S1x2048x512_1_0_0).toLoadRect.set ⊆ H 1 := fun i hi => by
  obtain ⟨x, hx, rfl⟩ := Finset.mem_map.mp hi
  have hx' : x ∈ (Rect.unit (s := S2x2048x512) ![1, 0, 0] S1x2048x512.size inb_S2x2048x512_S1x2048x512_1_0_0).set := hx
  rw [show _ = H 1 from set_half 1 ![1, 0, 0] rfl inb_S2x2048x512_S1x2048x512_1_0_0] at hx'
  exact hx'
theorem within4_1 : (Memref.whole cc0_scratch4 : Memref sig .tc .vmem S2x2048x512 .bf16).view.setOn (Rect.unit (s := S2x2048x512) ![1, 0, 0] S1x2048x512.size inb_S2x2048x512_S1x2048x512_1_0_0).toLoadRect.set ⊆ H 1 := fun i hi => by
  obtain ⟨x, hx, rfl⟩ := Finset.mem_map.mp hi
  have hx' : x ∈ (Rect.unit (s := S2x2048x512) ![1, 0, 0] S1x2048x512.size inb_S2x2048x512_S1x2048x512_1_0_0).set := hx
  rw [show _ = H 1 from set_half 1 ![1, 0, 0] rfl inb_S2x2048x512_S1x2048x512_1_0_0] at hx'
  exact hx'
theorem within5_0 : (Memref.whole cc0_scratch5 : Memref sig .tc .vmem S2x2048x512 .bf16).view.setOn (Rect.unit (s := S2x2048x512) ![0, 0, 0] S1x2048x512.size inb_S2x2048x512_S1x2048x512_0_0_0).toLoadRect.set ⊆ H 0 := fun i hi => by
  obtain ⟨x, hx, rfl⟩ := Finset.mem_map.mp hi
  have hx' : x ∈ (Rect.unit (s := S2x2048x512) ![0, 0, 0] S1x2048x512.size inb_S2x2048x512_S1x2048x512_0_0_0).set := hx
  rw [show _ = H 0 from set_half 0 ![0, 0, 0] rfl inb_S2x2048x512_S1x2048x512_0_0_0] at hx'
  exact hx'
theorem within6_0 : (Memref.whole cc0_scratch6 : Memref sig .tc .vmem S2x2048x512 .bf16).view.setOn (Rect.unit (s := S2x2048x512) ![0, 0, 0] S1x2048x512.size inb_S2x2048x512_S1x2048x512_0_0_0).toLoadRect.set ⊆ H 0 := fun i hi => by
  obtain ⟨x, hx, rfl⟩ := Finset.mem_map.mp hi
  have hx' : x ∈ (Rect.unit (s := S2x2048x512) ![0, 0, 0] S1x2048x512.size inb_S2x2048x512_S1x2048x512_0_0_0).set := hx
  rw [show _ = H 0 from set_half 0 ![0, 0, 0] rfl inb_S2x2048x512_S1x2048x512_0_0_0] at hx'
  exact hx'
theorem within5_1 : (Memref.whole cc0_scratch5 : Memref sig .tc .vmem S2x2048x512 .bf16).view.setOn (Rect.unit (s := S2x2048x512) ![1, 0, 0] S1x2048x512.size inb_S2x2048x512_S1x2048x512_1_0_0).toLoadRect.set ⊆ H 1 := fun i hi => by
  obtain ⟨x, hx, rfl⟩ := Finset.mem_map.mp hi
  have hx' : x ∈ (Rect.unit (s := S2x2048x512) ![1, 0, 0] S1x2048x512.size inb_S2x2048x512_S1x2048x512_1_0_0).set := hx
  rw [show _ = H 1 from set_half 1 ![1, 0, 0] rfl inb_S2x2048x512_S1x2048x512_1_0_0] at hx'
  exact hx'
theorem within6_1 : (Memref.whole cc0_scratch6 : Memref sig .tc .vmem S2x2048x512 .bf16).view.setOn (Rect.unit (s := S2x2048x512) ![1, 0, 0] S1x2048x512.size inb_S2x2048x512_S1x2048x512_1_0_0).toLoadRect.set ⊆ H 1 := fun i hi => by
  obtain ⟨x, hx, rfl⟩ := Finset.mem_map.mp hi
  have hx' : x ∈ (Rect.unit (s := S2x2048x512) ![1, 0, 0] S1x2048x512.size inb_S2x2048x512_S1x2048x512_1_0_0).set := hx
  rw [show _ = H 1 from set_half 1 ![1, 0, 0] rfl inb_S2x2048x512_S1x2048x512_1_0_0] at hx'
  exact hx'
theorem within1_0 : (Memref.whole cc0_scratch1 : Memref sig .tc .vmem S2x2048x512 .bf16).view.setOn (Rect.unit (s := S2x2048x512) ![0, 0, 0] S1x2048x512.size inb_S2x2048x512_S1x2048x512_0_0_0).toLoadRect.set ⊆ H 0 := fun i hi => by
  obtain ⟨x, hx, rfl⟩ := Finset.mem_map.mp hi
  have hx' : x ∈ (Rect.unit (s := S2x2048x512) ![0, 0, 0] S1x2048x512.size inb_S2x2048x512_S1x2048x512_0_0_0).set := hx
  rw [show _ = H 0 from set_half 0 ![0, 0, 0] rfl inb_S2x2048x512_S1x2048x512_0_0_0] at hx'
  exact hx'
theorem within2_0 : (Memref.whole cc0_scratch2 : Memref sig .tc .vmem S2x2048x512 .bf16).view.setOn (Rect.unit (s := S2x2048x512) ![0, 0, 0] S1x2048x512.size inb_S2x2048x512_S1x2048x512_0_0_0).toLoadRect.set ⊆ H 0 := fun i hi => by
  obtain ⟨x, hx, rfl⟩ := Finset.mem_map.mp hi
  have hx' : x ∈ (Rect.unit (s := S2x2048x512) ![0, 0, 0] S1x2048x512.size inb_S2x2048x512_S1x2048x512_0_0_0).set := hx
  rw [show _ = H 0 from set_half 0 ![0, 0, 0] rfl inb_S2x2048x512_S1x2048x512_0_0_0] at hx'
  exact hx'
theorem within1_1 : (Memref.whole cc0_scratch1 : Memref sig .tc .vmem S2x2048x512 .bf16).view.setOn (Rect.unit (s := S2x2048x512) ![1, 0, 0] S1x2048x512.size inb_S2x2048x512_S1x2048x512_1_0_0).toLoadRect.set ⊆ H 1 := fun i hi => by
  obtain ⟨x, hx, rfl⟩ := Finset.mem_map.mp hi
  have hx' : x ∈ (Rect.unit (s := S2x2048x512) ![1, 0, 0] S1x2048x512.size inb_S2x2048x512_S1x2048x512_1_0_0).set := hx
  rw [show _ = H 1 from set_half 1 ![1, 0, 0] rfl inb_S2x2048x512_S1x2048x512_1_0_0] at hx'
  exact hx'
theorem within2_1 : (Memref.whole cc0_scratch2 : Memref sig .tc .vmem S2x2048x512 .bf16).view.setOn (Rect.unit (s := S2x2048x512) ![1, 0, 0] S1x2048x512.size inb_S2x2048x512_S1x2048x512_1_0_0).toLoadRect.set ⊆ H 1 := fun i hi => by
  obtain ⟨x, hx, rfl⟩ := Finset.mem_map.mp hi
  have hx' : x ∈ (Rect.unit (s := S2x2048x512) ![1, 0, 0] S1x2048x512.size inb_S2x2048x512_S1x2048x512_1_0_0).set := hx
  rw [show _ = H 1 from set_half 1 ![1, 0, 0] rfl inb_S2x2048x512_S1x2048x512_1_0_0] at hx'
  exact hx'

/-- The loop of the second sweep is `moreBody` at the kernel's buffers. -/
theorem sweep2_eq (v13 : BitVec 32) (v24 : BitVec 32) (c1_i32_60 : BitVec 32) (c1_i32_61 : BitVec 32) : k0_t2_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 v13 v24 c1_i32_60 c1_i32_61
    = moreBody (F := F) k0_t2_loop k0_off3 k0_off4 k0_off3_inb k0_off4_inb ![1, 0, 0] inb_S2x2048x512_S1x2048x512_1_0_0 (Memref.whole cc0_scratch1) (Memref.whole cc0_scratch2) := rfl

/-- Part 4 at the kernel's buffers. -/
def part4 (v13 : BitVec 32) (v24 : BitVec 32) (a : BitVec 32) (b : BitVec 32) : Prog (TpuEff nD τ sig (Elt F) Λ₀ .tc) (BitVec 32) :=
  k0_part4 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 v13 v24 a b

set_option maxHeartbeats 2000000 in
/-- PART 4: the second sweep; then what the first transfers lend comes back and what they bring arrives. -/
theorem wp_part4 (c : Dev nD) (x y a b : BitVec 32) {Kt : BitVec 32 → sProp 𝕄} :
    iprop(records m K ∗ levAts L lv ∗ owing c (due.drop 6)
        ∗ ((c : Thread nD τ).loc cc0_scratch1 ↦{fullShare.right.right} KP m c) ∗ ((c : Thread nD τ).loc cc0_scratch2 ↦{fullShare.right.right} VP m c)
        ∗ ((c : Thread nD τ).loc cc0_scratch0 ↦{fullShare} Qs m c) ∗ ((c : Thread nD τ).loc cc0_scratch7 ↦{fullShare} (acc1 m c).2) ∗ ((c : Thread nD τ).loc cc0_stg0_0 ↦{fullShare} (acc1 m c).1)
        ∗ cred (tallyAt (cl c (.dma (dS 1))) () NW) ∗ cred (tallyAt (cl c (.dma (dS 9))) () NW) ∗ cred (tallyAt (cl c (.dma (dS 3))) () NW) ∗ cred (tallyAt (cl c (.dma (dS 11))) () NW) ∗ cred (tallyAt (cl c (.dma (dS 2))) () NW) ∗ cred (tallyAt (cl c (.dma (dS 10))) () NW) ∗ cred (tallyAt (cl c (.dma (dS 4))) () NW)
        ∗ atPos ER (cl c (.dma (dS 1))) 0 ∅ 0 ∗ atPos ER (cl c (.dma (dS 9))) 0 ∅ 0 ∗ atPos ER (cl c (.dma (dS 3))) 0 ∅ 0 ∗ atPos ER (cl c (.dma (dS 11))) 0 ∅ 0 ∗ atPos ER (cl c (.dma (dS 2))) 0 ∅ 0 ∗ atPos ER (cl c (.dma (dS 10))) 0 ∅ 0 ∗ atPos ER (cl c (.dma (dS 4))) 0 ∅ 0
        ∗ ((owing c (due.drop 6)
            ∗ ((c : Thread nD τ).loc cc0_scratch1 ↦{fullShare.right.right} KP m c) ∗ ((c : Thread nD τ).loc cc0_scratch2 ↦{fullShare.right.right} VP m c)
            ∗ ((c : Thread nD τ).loc cc0_scratch0 ↦{fullShare} Qs m c) ∗ ((c : Thread nD τ).loc cc0_scratch7 ↦{fullShare} (acc2 m c).2) ∗ ((c : Thread nD τ).loc cc0_stg0_0 ↦{fullShare} (acc2 m c).1)
            ∗ semVal (cl c (.dma (dS 1))) 0 ∗ semVal (cl c (.dma (dS 9))) 0 ∗ semVal (cl c (.dma (dS 3))) 0 ∗ semVal (cl c (.dma (dS 11))) 0 ∗ semVal (cl c (.dma (dS 2))) 0 ∗ semVal (cl c (.dma (dS 10))) 0 ∗ semVal (cl c (.dma (dS 4))) 0
            ∗ pay m c 1 0 false ∗ pay m c 9 0 false ∗ pay m c 3 0 false ∗ pay m c 11 0 false ∗ pay m c 2 0 false ∗ pay m c 10 0 false ∗ pay m c 4 0 false) -∗ Kt 1#32))
      ⊢ wp frame (wpE (defs₀ (F := F)) 𝒱₀ (c : Thread nD τ) none) Set.univ (part4 (F := F) x y a b) Kt := by
  unfold part4
  simp only [k0_part4_eq_skeleton]
  unfold k0_part4_skel
  simp only [Prog.lift, Prog.bind_op, Prog.bind_ret, Prog.pure_eq_ret]
  iintro ⟨#HR, #Hlev, HO, H1, H2, H0, H7, Hf, Hc1, Hc9, Hc3, Hc11, Hc2, Hc10, Hc4, Hat1, Hat9, Hat3, Hat11, Hat2, Hat10, Hat4, Hk⟩
  rw [wp_bind]
  rw [sweep2_eq]
  iapply (wp_more c k0_t2_loop k0_t2_ok (by decide) k0_off3 k0_off4 k0_off3_inb k0_off4_inb k0_off3_eq k0_off4_eq ![1, 0, 0] inb_S2x2048x512_S1x2048x512_1_0_0
    (Memref.whole cc0_scratch1) (Memref.whole cc0_scratch2) (half 1 (KP m c)) (half 1 (VP m c)) (Sk := Finset.univ) (Sv := Finset.univ) (Finset.subset_univ _) (Finset.subset_univ _)
    (fk := KP m c) (fv := VP m c) (read_half 1 ![1, 0, 0] rfl _ _) (read_half 1 ![1, 0, 0] rfl _ _) (Qs m c) (acc1 m c).1 (acc1 m c).2)
  unfold sweepHeld
  isplitl [H0 H1 H2 H7 Hf]
  · isplitl [H0]; · iexact H0
    isplitl [H1]; · iexact H1
    isplitl [H2]; · iexact H2
    isplitl [H7]; · iexact H7
    iexact Hf
  iintro ⟨H0, H1, H2, H7, Hf⟩
  iapply (wp_take m K c 0 (s := (((cc0_scratch8.slice (Rect.unit (s := S8) ![0] S1.size inb_S8_S1_0)).squeeze S_ squeezes_S1_S_).sem)) (dS 1) rfl rfl (by decide) (src := Memref.whole cc0_scratch3) (dst := Memref.whole cc0_scratch1) NW rfl rfl (due.drop 6) (by decide)) $$ [HO Hc1 Hat1]
  · isplitr; · iexact HR
    isplitr; · iexact Hlev
    isplitl [Hc1]; · iexact Hc1
    isplitl [HO]; · iexact HO
    iexact Hat1
  iintro ⟨HO, Hz1, Hp1⟩
  iapply (wp_take m K c 8 (s := (((cc0_scratch9.slice (Rect.unit (s := S8) ![0] S1.size inb_S8_S1_0)).squeeze S_ squeezes_S1_S_).sem)) (dS 9) rfl rfl (by decide) (src := Memref.whole cc0_scratch1) (dst := Memref.whole cc0_scratch3) NW rfl rfl (due.drop 6) (by decide)) $$ [HO Hc9 Hat9]
  · isplitr; · iexact HR
    isplitr; · iexact Hlev
    isplitl [Hc9]; · iexact Hc9
    isplitl [HO]; · iexact HO
    iexact Hat9
  iintro ⟨HO, Hz9, Hp9⟩
  iapply (wp_take m K c 2 (s := (((cc0_scratch8.slice (Rect.unit (s := S8) ![2] S1.size inb_S8_S1_2)).squeeze S_ squeezes_S1_S_).sem)) (dS 3) rfl rfl (by decide) (src := Memref.whole cc0_scratch5) (dst := Memref.whole cc0_scratch1) NW rfl rfl (due.drop 6) (by decide)) $$ [HO Hc3 Hat3]
  · isplitr; · iexact HR
    isplitr; · iexact Hlev
    isplitl [Hc3]; · iexact Hc3
    isplitl [HO]; · iexact HO
    iexact Hat3
  iintro ⟨HO, Hz3, Hp3⟩
  iapply (wp_take m K c 10 (s := (((cc0_scratch9.slice (Rect.unit (s := S8) ![2] S1.size inb_S8_S1_2)).squeeze S_ squeezes_S1_S_).sem)) (dS 11) rfl rfl (by decide) (src := Memref.whole cc0_scratch1) (dst := Memref.whole cc0_scratch5) NW rfl rfl (due.drop 6) (by decide)) $$ [HO Hc11 Hat11]
  · isplitr; · iexact HR
    isplitr; · iexact Hlev
    isplitl [Hc11]; · iexact Hc11
    isplitl [HO]; · iexact HO
    iexact Hat11
  iintro ⟨HO, Hz11, Hp11⟩
  iapply (wp_take m K c 1 (s := (((cc0_scratch8.slice (Rect.unit (s := S8) ![1] S1.size inb_S8_S1_1)).squeeze S_ squeezes_S1_S_).sem)) (dS 2) rfl rfl (by decide) (src := Memref.whole cc0_scratch4) (dst := Memref.whole cc0_scratch2) NW rfl rfl (due.drop 6) (by decide)) $$ [HO Hc2 Hat2]
  · isplitr; · iexact HR
    isplitr; · iexact Hlev
    isplitl [Hc2]; · iexact Hc2
    isplitl [HO]; · iexact HO
    iexact Hat2
  iintro ⟨HO, Hz2, Hp2⟩
  iapply (wp_take m K c 9 (s := (((cc0_scratch9.slice (Rect.unit (s := S8) ![1] S1.size inb_S8_S1_1)).squeeze S_ squeezes_S1_S_).sem)) (dS 10) rfl rfl (by decide) (src := Memref.whole cc0_scratch2) (dst := Memref.whole cc0_scratch4) NW rfl rfl (due.drop 6) (by decide)) $$ [HO Hc10 Hat10]
  · isplitr; · iexact HR
    isplitr; · iexact Hlev
    isplitl [Hc10]; · iexact Hc10
    isplitl [HO]; · iexact HO
    iexact Hat10
  iintro ⟨HO, Hz10, Hp10⟩
  iapply (wp_take m K c 3 (s := (((cc0_scratch8.slice (Rect.unit (s := S8) ![3] S1.size inb_S8_S1_3)).squeeze S_ squeezes_S1_S_).sem)) (dS 4) rfl rfl (by decide) (src := Memref.whole cc0_scratch6) (dst := Memref.whole cc0_scratch2) NW rfl rfl (due.drop 6) (by decide)) $$ [HO Hc4 Hat4]
  · isplitr; · iexact HR
    isplitr; · iexact Hlev
    isplitl [Hc4]; · iexact Hc4
    isplitl [HO]; · iexact HO
    iexact Hat4
  iintro ⟨HO, Hz4, Hp4⟩
  rw [wp_ret]
  imodintro
  iapply Hk
  isplitl [HO]; · iexact HO
  isplitl [H1]; · iexact H1
  isplitl [H2]; · iexact H2
  isplitl [H0]; · iexact H0
  isplitl [H7]; · iexact H7
  isplitl [Hf]; · iexact Hf
  isplitl [Hz1]; · iexact Hz1
  isplitl [Hz9]; · iexact Hz9
  isplitl [Hz3]; · iexact Hz3
  isplitl [Hz11]; · iexact Hz11
  isplitl [Hz2]; · iexact Hz2
  isplitl [Hz10]; · iexact Hz10
  isplitl [Hz4]; · iexact Hz4
  isplitl [Hp1]; · iexact Hp1
  isplitl [Hp9]; · iexact Hp9
  isplitl [Hp3]; · iexact Hp3
  isplitl [Hp11]; · iexact Hp11
  isplitl [Hp2]; · iexact Hp2
  isplitl [Hp10]; · iexact Hp10
  iexact Hp4

/-- Part 5 at the kernel's buffers. -/
def part5 (d0 : Dev nD) (v13 : BitVec 32) (v24 : BitVec 32) (c92 : BitVec 32) : Prog (TpuEff nD τ sig (Elt F) Λ₀ .tc) (PUnit) :=
  k0_part5 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13 v24 c92

set_option maxHeartbeats 2000000 in
/-- PART 5: the last of the first transfers arrives; the device's own keys and values, no more needed, are lent half by
    half to the neighbours; both neighbours' halves come; the first half of the previous device's keys goes on. -/
theorem wp_part5 (c : Dev nD) (x y a : BitVec 32) {Kt : PUnit → sProp 𝕄} :
    iprop(records m K ∗ levAts L lv ∗ owing c (due.drop 6)
        ∗ ((c : Thread nD τ).loc cc0_scratch1 ↦{fullShare.right.right} KP m c) ∗ ((c : Thread nD τ).loc cc0_scratch2 ↦{fullShare.right.right} VP m c)
        ∗ pay m c 1 0 false ∗ pay m c 3 0 false ∗ pay m c 2 0 false ∗ pay m c 4 0 false
        ∗ cred (tallyAt (cl c (.dma (dS 12))) () NW) ∗ atPos ER (cl c (.dma (dS 12))) 0 ∅ 0
        ∗ dutyTok ER (cl (prv c) (.reg (0 : Fin 2))) 0 true ∗ dutyTok ER (cl (nxt c) (.reg (0 : Fin 2))) 0 false
        ∗ cred (tallyAt (cl c (.reg (0 : Fin 2))) () 2) ∗ atPos ER (cl c (.reg (0 : Fin 2))) 0 ∅ 0
        ∗ ((c : Thread nD τ).loc cc0_scratch3 ↦{fullShare} KP m (prv c))
        ∗ dutyTok ER (cl c (.dma (dS 5))) 0 false ∗ dutyTok ER (cl (nxt c) (.dma (dS 13))) 0 false
        ∗ ((owing c (due.drop 9) ∗ semVal (cl c (.dma (dS 12))) 0 ∗ pay m c 12 0 false ∗ semVal (cl c (.reg (0 : Fin 2))) 0
            ∗ (∃ f, (nxt c : Thread nD τ).loc cc0_scratch2 ↦[H 0]{fullShare} f) ∗ ((∃ f, (prv c : Thread nD τ).loc cc0_scratch1 ↦[H 1]{fullShare} f) ∗ (∃ f, (prv c : Thread nD τ).loc cc0_scratch2 ↦[H 1]{fullShare} f))
            ∗ cred (tallyAt (cl c (.dma (dS 5))) () NH)
            ∗ ((c : Thread nD τ).loc cc0_scratch3 ↦[H 0]{fullShare.right} KP m (prv c)) ∗ ((c : Thread nD τ).loc cc0_scratch3 ↦[H 1]{fullShare} KP m (prv c))) -∗ Kt ⟨⟩))
      ⊢ wp frame (wpE (defs₀ (F := F)) 𝒱₀ (c : Thread nD τ) none) Set.univ (part5 (F := F) c x y a) Kt := by
  unfold part5
  simp only [k0_part5_eq_skeleton]
  unfold k0_part5_skel
  simp only [semSignalWord, semWaitWord, Prog.lift, Prog.bind_op, Prog.bind_ret, Prog.pure_eq_ret]
  iintro ⟨#HR, #Hlev, HO, H1, H2, Hp1, Hp3, Hp2, Hp4, Hc12, Hat12, HtP, HtN, Hc, Hat, H3, Ht5, Hu5, Hk⟩
  iapply (wp_take m K c 11 (s := (((cc0_scratch9.slice (Rect.unit (s := S8) ![3] S1.size inb_S8_S1_3)).squeeze S_ squeezes_S1_S_).sem)) (dS 12) rfl rfl (by decide) (src := Memref.whole cc0_scratch2) (dst := Memref.whole cc0_scratch6) NW rfl rfl (due.drop 6) (by decide)) $$ [HO Hc12 Hat12]
  · isplitr; · iexact HR
    isplitr; · iexact Hlev
    isplitl [Hc12]; · iexact Hc12
    isplitl [HO]; · iexact HO
    iexact Hat12
  iintro ⟨HO, Hz12, Hp12⟩
  ihave Hq1 := (show pay m c 1 0 false ⊢ (((c : Thread nD τ).loc cc0_scratch1 ↦{fullShare.left} KP m c) : sProp 𝕄) from BIBase.Entails.rfl) $$ Hp1
  ihave Hq2 := (show pay m c 3 0 false ⊢ (((c : Thread nD τ).loc cc0_scratch1 ↦{fullShare.right.left} KP m c) : sProp 𝕄) from BIBase.Entails.rfl) $$ Hp3
  ihave H1 : iprop(((c : Thread nD τ).loc cc0_scratch1 ↦{fullShare} KP m c)) $$ [Hq1 Hq2 H1]
  · iapply (unite fullShare)
    isplitl [Hq1]; · iexact Hq1
    iapply (unite fullShare.right)
    isplitl [Hq2] <;> iassumption
  ihave H1 := (cut halves_disjoint halves_union) $$ H1
  icases H1 with ⟨H1a, H1b⟩
  ihave Hq1 := (show pay m c 2 0 false ⊢ (((c : Thread nD τ).loc cc0_scratch2 ↦{fullShare.left} VP m c) : sProp 𝕄) from BIBase.Entails.rfl) $$ Hp2
  ihave Hq2 := (show pay m c 4 0 false ⊢ (((c : Thread nD τ).loc cc0_scratch2 ↦{fullShare.right.left} VP m c) : sProp 𝕄) from BIBase.Entails.rfl) $$ Hp4
  ihave H2 : iprop(((c : Thread nD τ).loc cc0_scratch2 ↦{fullShare} VP m c)) $$ [Hq1 Hq2 H2]
  · iapply (unite fullShare)
    isplitl [Hq1]; · iexact Hq1
    iapply (unite fullShare.right)
    isplitl [Hq2] <;> iassumption
  ihave H2 := (cut halves_disjoint halves_union) $$ H2
  icases H2 with ⟨H2a, H2b⟩
  iapply (wp_ping m K c false 18 true (s := (0 : Fin 2)) (dev7_eq c) rfl (by decide) (by decide) (due.drop 6) (due.drop 7) rfl) $$ [HO HtP H1a H2a]
  · isplitr; · iexact HR
    isplitl [HO]; · iexact HO
    isplitl [HtP]; · iexact HtP
    iapply (show (iprop((∃ f, (nxt (prv c) : Thread nD τ).loc cc0_scratch1 ↦[H 0]{fullShare} f) ∗ (∃ f, (nxt (prv c) : Thread nD τ).loc cc0_scratch2 ↦[H 0]{fullShare} f)) : sProp 𝕄)
      ⊢ pay m (goto false c) (slot (.reg (0 : Fin 2))) 0 true from BIBase.Entails.rfl)
    rw [nxt_prv]
    isplitl [H1a]; · iexists _; iexact H1a
    iexists _; iexact H2a
  iintro HO
  iapply (wp_ping m K c true 18 false (s := (0 : Fin 2)) (dev8_eq c) rfl (by decide) (by decide) (due.drop 7) (due.drop 8) rfl) $$ [HO HtN H1b H2b]
  · isplitr; · iexact HR
    isplitl [HO]; · iexact HO
    isplitl [HtN]; · iexact HtN
    iapply (show (iprop((∃ f, (prv (nxt c) : Thread nD τ).loc cc0_scratch1 ↦[H 1]{fullShare} f) ∗ (∃ f, (prv (nxt c) : Thread nD τ).loc cc0_scratch2 ↦[H 1]{fullShare} f)) : sProp 𝕄)
      ⊢ pay m (goto true c) (slot (.reg (0 : Fin 2))) 0 false from BIBase.Entails.rfl)
    rw [prv_nxt]
    isplitl [H1b]; · iexists _; iexact H1b
    iexists _; iexact H2b
  iintro HO
  iapply (wp_meet m K c 18 (s := (0 : Fin 2)) (0 : Fin 2) rfl rfl (by decide) (by decide) (due.drop 8) (by decide)) $$ [HO Hc Hat]
  · isplitr; · iexact HR
    isplitr; · iexact Hlev
    isplitl [Hc]; · iexact Hc
    isplitl [HO]; · iexact HO
    iexact Hat
  iintro ⟨HO, Hz, Hq1, Hq2⟩
  ihave Hq2 := (show pay m c (slot (.reg (0 : Fin 2))) 0 true ⊢ (iprop(((∃ f, (nxt c : Thread nD τ).loc cc0_scratch1 ↦[H 0]{fullShare} f) ∗ (∃ f, (nxt c : Thread nD τ).loc cc0_scratch2 ↦[H 0]{fullShare} f))) : sProp 𝕄) from BIBase.Entails.rfl) $$ Hq2
  icases Hq2 with ⟨⟨%g1, G1⟩, G2⟩
  ihave Hq1 := (show pay m c (slot (.reg (0 : Fin 2))) 0 false ⊢ (iprop(((∃ f, (prv c : Thread nD τ).loc cc0_scratch1 ↦[H 1]{fullShare} f) ∗ (∃ f, (prv c : Thread nD τ).loc cc0_scratch2 ↦[H 1]{fullShare} f))) : sProp 𝕄) from BIBase.Entails.rfl) $$ Hq1
  ihave H3 := (cut halves_disjoint halves_union) $$ H3
  icases H3 with ⟨H3a, H3b⟩
  ihave H3a := (halve fullShare) $$ H3a
  icases H3a with ⟨H3l, H3r⟩
  iapply (wp_push m K c true 4 12 (dev9_eq c) (src := (((Memref.whole cc0_scratch3 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (dst := (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (sS := (((cc0_scratch8.slice (Rect.unit (s := S8) ![4] S1.size inb_S8_S1_4)).squeeze S_ squeezes_S1_S_).sem)) (sR := (((cc0_scratch9.slice (Rect.unit (s := S8) ![4] S1.size inb_S8_S1_4)).squeeze S_ squeezes_S1_S_).sem)) (dS 5) (dS 13) rfl rfl rfl rfl (by decide) (by decide) NH rfl rfl rfl
    (due.drop 8) (due.drop 9) rfl (q := fullShare.left) (KP m (prv c)) (set_half3) (set_half1) (copy_half31 _ _)
    BIBase.Entails.rfl
    (BIBase.Entails.of_eq (show _ = (((goto true c : Thread nD τ).loc cc0_scratch1 ↦[H 0]{fullShare} KP m (prv (prv (nxt c)))) : sProp 𝕄) by rw [prv_nxt]))) $$ [HO H3l G1 Ht5 Hu5]
  · isplitr; · iexact HR
    isplitl [HO]; · iexact HO
    isplitl [H3l]; · iexact H3l
    isplitl [G1]; · iexact G1
    isplitl [Ht5]; · iexact Ht5
    iexact Hu5
  iintro ⟨Hc5, HO⟩
  rw [wp_ret]
  imodintro
  iapply Hk
  isplitl [HO]; · iexact HO
  isplitl [Hz12]; · iexact Hz12
  isplitl [Hp12]; · iexact Hp12
  isplitl [Hz]; · iexact Hz
  isplitl [G2]; · iexact G2
  isplitl [Hq1]; · iexact Hq1
  isplitl [Hc5]; · iexact Hc5
  isplitl [H3r]; · iexact H3r
  iexact H3b

end Cert.RingAttn
-- ==== Proof.Body5.lean ====
/-
  Parts 6 to 8 of the kernel's body: the other three transfers of the second round, the sweeps over the previous device's
  keys and values, and the waits for the second round.
-/
module

public import proofs.«01_k».proof.Proof.Body4

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-- The loops of the third and the fourth sweep are `moreBody` at the kernel's buffers. -/
theorem sweep3_eq (d0 : Dev nD) (v13 : BitVec 32) : k0_t3_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13
    = moreBody (F := F) k0_t3_loop k0_off5 k0_off6 k0_off5_inb k0_off6_inb ![0, 0, 0] inb_S2x2048x512_S1x2048x512_0_0_0 (Memref.whole cc0_scratch3) (Memref.whole cc0_scratch4) := rfl
theorem sweep4_eq (d0 : Dev nD) (v13 : BitVec 32) : k0_t4_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13
    = moreBody (F := F) k0_t4_loop k0_off7 k0_off8 k0_off7_inb k0_off8_inb ![1, 0, 0] inb_S2x2048x512_S1x2048x512_1_0_0 (Memref.whole cc0_scratch3) (Memref.whole cc0_scratch4) := rfl

/-- Part 6 at the kernel's buffers. -/
def part6 (d0 : Dev nD) (v13 : BitVec 32) : Prog (TpuEff nD τ sig (Elt F) Λ₀ .tc) (PUnit) :=
  k0_part6 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 d0 v13

set_option maxHeartbeats 2000000 in
/-- PART 6: the rest of the second round is sent on; the sweeps over the previous device's keys and values. -/
theorem wp_part6 (c : Dev nD) (x : BitVec 32) {Kt : PUnit → sProp 𝕄} :
    iprop(records m K ∗ levAts L lv ∗ owing c (due.drop 9)
        ∗ (∃ f, (nxt c : Thread nD τ).loc cc0_scratch2 ↦[H 0]{fullShare} f) ∗ ((∃ f, (prv c : Thread nD τ).loc cc0_scratch1 ↦[H 1]{fullShare} f) ∗ (∃ f, (prv c : Thread nD τ).loc cc0_scratch2 ↦[H 1]{fullShare} f))
        ∗ pay m c 10 0 false ∗ pay m c 11 0 false ∗ pay m c 12 0 false
        ∗ dutyTok ER (cl c (.dma (dS 6))) 0 false ∗ dutyTok ER (cl (nxt c) (.dma (dS 14))) 0 false
        ∗ dutyTok ER (cl c (.dma (dS 7))) 0 false ∗ dutyTok ER (cl (prv c) (.dma (dS 15))) 0 false
        ∗ dutyTok ER (cl c (.dma (dS 8))) 0 false ∗ dutyTok ER (cl (prv c) (.dma (dS 16))) 0 false
        ∗ ((c : Thread nD τ).loc cc0_scratch3 ↦[H 0]{fullShare.right} KP m (prv c)) ∗ ((c : Thread nD τ).loc cc0_scratch3 ↦[H 1]{fullShare} KP m (prv c))
        ∗ ((c : Thread nD τ).loc cc0_scratch0 ↦{fullShare} Qs m c) ∗ ((c : Thread nD τ).loc cc0_scratch7 ↦{fullShare} (acc2 m c).2) ∗ ((c : Thread nD τ).loc cc0_stg0_0 ↦{fullShare} (acc2 m c).1)
        ∗ ((owing c (due.drop 12) ∗ cred (tallyAt (cl c (.dma (dS 6))) () NH) ∗ cred (tallyAt (cl c (.dma (dS 7))) () NH) ∗ cred (tallyAt (cl c (.dma (dS 8))) () NH)
            ∗ ((c : Thread nD τ).loc cc0_scratch3 ↦[H 0]{fullShare.right} KP m (prv c)) ∗ ((c : Thread nD τ).loc cc0_scratch4 ↦[H 0]{fullShare.right} VP m (prv c))
            ∗ ((c : Thread nD τ).loc cc0_scratch3 ↦[H 1]{fullShare} KP m (prv c)) ∗ ((c : Thread nD τ).loc cc0_scratch4 ↦[H 1]{fullShare} VP m (prv c))
            ∗ ((c : Thread nD τ).loc cc0_scratch5 ↦[H 0]{fullShare} KP m (nxt c)) ∗ ((c : Thread nD τ).loc cc0_scratch6 ↦[H 0]{fullShare} VP m (nxt c))
            ∗ ((c : Thread nD τ).loc cc0_scratch0 ↦{fullShare} Qs m c) ∗ ((c : Thread nD τ).loc cc0_scratch7 ↦{fullShare} (acc4 m c).2) ∗ ((c : Thread nD τ).loc cc0_stg0_0 ↦{fullShare} (acc4 m c).1)) -∗ Kt ⟨⟩))
      ⊢ wp frame (wpE (defs₀ (F := F)) 𝒱₀ (c : Thread nD τ) none) Set.univ (part6 (F := F) c x) Kt := by
  unfold part6
  simp only [k0_part6_eq_skeleton]
  unfold k0_part6_skel
  simp only [Prog.lift, Prog.bind_op, Prog.bind_ret, Prog.pure_eq_ret]
  iintro ⟨#HR, #Hlev, HO, ⟨%g2, G2⟩, ⟨⟨%p1, P1⟩, ⟨%p2, P2⟩⟩, Hp10, Hp11, Hp12, Ht6, Hu6, Ht7, Hu7, Ht8, Hu8, H3r, H3b, H0, H7, Hf, Hk⟩
  ihave H4 := (show pay m c 10 0 false ⊢ (((c : Thread nD τ).loc cc0_scratch4 ↦{fullShare} VP m (prv c)) : sProp 𝕄) from BIBase.Entails.rfl) $$ Hp10
  ihave H4 := (cut halves_disjoint halves_union) $$ H4
  icases H4 with ⟨H4a, H4b⟩
  ihave H5 := (show pay m c 11 0 false ⊢ (((c : Thread nD τ).loc cc0_scratch5 ↦{fullShare} KP m (nxt c)) : sProp 𝕄) from BIBase.Entails.rfl) $$ Hp11
  ihave H5 := (cut halves_disjoint halves_union) $$ H5
  icases H5 with ⟨H5a, H5b⟩
  ihave H6 := (show pay m c 12 0 false ⊢ (((c : Thread nD τ).loc cc0_scratch6 ↦{fullShare} VP m (nxt c)) : sProp 𝕄) from BIBase.Entails.rfl) $$ Hp12
  ihave H6 := (cut halves_disjoint halves_union) $$ H6
  icases H6 with ⟨H6a, H6b⟩
  ihave H4a := (halve fullShare) $$ H4a
  icases H4a with ⟨H4l, H4r⟩
  iapply (wp_push m K c true 5 13 (dev10_eq c) (src := (((Memref.whole cc0_scratch4 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (dst := (((Memref.whole cc0_scratch2 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (sS := (((cc0_scratch8.slice (Rect.unit (s := S8) ![5] S1.size inb_S8_S1_5)).squeeze S_ squeezes_S1_S_).sem)) (sR := (((cc0_scratch9.slice (Rect.unit (s := S8) ![5] S1.size inb_S8_S1_5)).squeeze S_ squeezes_S1_S_).sem)) (dS 6) (dS 14) rfl rfl rfl rfl (by decide) (by decide) NH rfl rfl rfl
    (due.drop 9) (due.drop 10) rfl (q := fullShare.left) (VP m (prv c)) (set_half4) (set_half2) (copy_half42 _ _)
    BIBase.Entails.rfl
    (BIBase.Entails.of_eq (show _ = (((goto true c : Thread nD τ).loc cc0_scratch2 ↦[H 0]{fullShare} VP m (prv (prv (nxt c)))) : sProp 𝕄) by rw [prv_nxt]))) $$ [HO H4l G2 Ht6 Hu6]
  · isplitr; · iexact HR
    isplitl [HO]; · iexact HO
    isplitl [H4l]; · iexact H4l
    isplitl [G2]; · iexact G2
    isplitl [Ht6]; · iexact Ht6
    iexact Hu6
  iintro ⟨Hc6, HO⟩
  iapply (wp_push m K c false 6 14 (dev11_eq c) (src := (((Memref.whole cc0_scratch5 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (dst := (((Memref.whole cc0_scratch1 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (sS := (((cc0_scratch8.slice (Rect.unit (s := S8) ![6] S1.size inb_S8_S1_6)).squeeze S_ squeezes_S1_S_).sem)) (sR := (((cc0_scratch9.slice (Rect.unit (s := S8) ![6] S1.size inb_S8_S1_6)).squeeze S_ squeezes_S1_S_).sem)) (dS 7) (dS 15) rfl rfl rfl rfl (by decide) (by decide) NH rfl rfl rfl
    (due.drop 10) (due.drop 11) rfl (q := fullShare) (KP m (nxt c)) (set_half5) (set_half1') (copy_half51 _ _)
    BIBase.Entails.rfl
    (BIBase.Entails.of_eq (show _ = (((goto false c : Thread nD τ).loc cc0_scratch1 ↦[H 1]{fullShare} KP m (nxt (nxt (prv c)))) : sProp 𝕄) by rw [nxt_prv]))) $$ [HO H5b P1 Ht7 Hu7]
  · isplitr; · iexact HR
    isplitl [HO]; · iexact HO
    isplitl [H5b]; · iexact H5b
    isplitl [P1]; · iexact P1
    isplitl [Ht7]; · iexact Ht7
    iexact Hu7
  iintro ⟨Hc7, HO⟩
  iapply (wp_push m K c false 7 15 (dev12_eq c) (src := (((Memref.whole cc0_scratch6 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (dst := (((Memref.whole cc0_scratch2 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (sS := (((cc0_scratch8.slice (Rect.unit (s := S8) ![7] S1.size inb_S8_S1_7)).squeeze S_ squeezes_S1_S_).sem)) (sR := (((cc0_scratch9.slice (Rect.unit (s := S8) ![7] S1.size inb_S8_S1_7)).squeeze S_ squeezes_S1_S_).sem)) (dS 8) (dS 16) rfl rfl rfl rfl (by decide) (by decide) NH rfl rfl rfl
    (due.drop 11) (due.drop 12) rfl (q := fullShare) (VP m (nxt c)) (set_half6) (set_half2') (copy_half62 _ _)
    BIBase.Entails.rfl
    (BIBase.Entails.of_eq (show _ = (((goto false c : Thread nD τ).loc cc0_scratch2 ↦[H 1]{fullShare} VP m (nxt (nxt (prv c)))) : sProp 𝕄) by rw [nxt_prv]))) $$ [HO H6b P2 Ht8 Hu8]
  · isplitr; · iexact HR
    isplitl [HO]; · iexact HO
    isplitl [H6b]; · iexact H6b
    isplitl [P2]; · iexact P2
    isplitl [Ht8]; · iexact Ht8
    iexact Hu8
  iintro ⟨Hc8, HO⟩
  rw [wp_bind]
  rw [sweep3_eq]
  iapply (wp_more c k0_t3_loop k0_t3_ok (by decide) k0_off5 k0_off6 k0_off5_inb k0_off6_inb k0_off5_eq k0_off6_eq ![0, 0, 0] inb_S2x2048x512_S1x2048x512_0_0_0
    (Memref.whole cc0_scratch3) (Memref.whole cc0_scratch4) (half 0 (KP m (prv c))) (half 0 (VP m (prv c))) (Sk := H 0) (Sv := H 0) within3_0 within4_0
    (fk := KP m (prv c)) (fv := VP m (prv c)) (read_half 0 ![0, 0, 0] rfl _ _) (read_half 0 ![0, 0, 0] rfl _ _) (Qs m c) (acc2 m c).1 (acc2 m c).2)
  unfold sweepHeld
  isplitl [H0 H3r H4r H7 Hf]
  · isplitl [H0]; · iexact H0
    isplitl [H3r]; · iexact H3r
    isplitl [H4r]; · iexact H4r
    isplitl [H7]; · iexact H7
    iexact Hf
  iintro ⟨H0, H3r, H4r, H7, Hf⟩
  rw [wp_bind]
  rw [sweep4_eq]
  iapply (wp_more c k0_t4_loop k0_t4_ok (by decide) k0_off7 k0_off8 k0_off7_inb k0_off8_inb k0_off7_eq k0_off8_eq ![1, 0, 0] inb_S2x2048x512_S1x2048x512_1_0_0
    (Memref.whole cc0_scratch3) (Memref.whole cc0_scratch4) (half 1 (KP m (prv c))) (half 1 (VP m (prv c))) (Sk := H 1) (Sv := H 1) within3_1 within4_1
    (fk := KP m (prv c)) (fv := VP m (prv c)) (read_half 1 ![1, 0, 0] rfl _ _) (read_half 1 ![1, 0, 0] rfl _ _) (Qs m c) (acc3 m c).1 (acc3 m c).2)
  unfold sweepHeld
  isplitl [H0 H3b H4b H7 Hf]
  · isplitl [H0]; · iexact H0
    isplitl [H3b]; · iexact H3b
    isplitl [H4b]; · iexact H4b
    isplitl [H7]; · iexact H7
    iexact Hf
  iintro ⟨H0, H3b, H4b, H7, Hf⟩
  rw [wp_ret]
  imodintro
  iapply Hk
  isplitl [HO]; · iexact HO
  isplitl [Hc6]; · iexact Hc6
  isplitl [Hc7]; · iexact Hc7
  isplitl [Hc8]; · iexact Hc8
  isplitl [H3r]; · iexact H3r
  isplitl [H4r]; · iexact H4r
  isplitl [H3b]; · iexact H3b
  isplitl [H4b]; · iexact H4b
  isplitl [H5a]; · iexact H5a
  isplitl [H6a]; · iexact H6a
  isplitl [H0]; · iexact H0
  isplitl [H7]; · iexact H7
  iexact Hf

/-- Part 7 at the kernel's buffers. -/
def part7 (v24 : BitVec 32) : Prog (TpuEff nD τ sig (Elt F) Λ₀ .tc) (PUnit) :=
  k0_part7 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 v24

/-- PART 7: three waits of the second round. -/
theorem wp_part7 (c : Dev nD) (x : BitVec 32) {Kt : PUnit → sProp 𝕄} :
    iprop(records m K ∗ levAts L lv ∗ owing c (due.drop 12)
        ∗ cred (tallyAt (cl c (.dma (dS 5))) () NH) ∗ cred (tallyAt (cl c (.dma (dS 13))) () NH) ∗ cred (tallyAt (cl c (.dma (dS 6))) () NH)
        ∗ atPos ER (cl c (.dma (dS 5))) 0 ∅ 0 ∗ atPos ER (cl c (.dma (dS 13))) 0 ∅ 0 ∗ atPos ER (cl c (.dma (dS 6))) 0 ∅ 0
        ∗ ((owing c (due.drop 12) ∗ semVal (cl c (.dma (dS 5))) 0 ∗ semVal (cl c (.dma (dS 13))) 0 ∗ semVal (cl c (.dma (dS 6))) 0
            ∗ pay m c 5 0 false ∗ pay m c 13 0 false ∗ pay m c 6 0 false) -∗ Kt ⟨⟩))
      ⊢ wp frame (wpE (defs₀ (F := F)) 𝒱₀ (c : Thread nD τ) none) Set.univ (part7 (F := F) x) Kt := by
  unfold part7
  simp only [k0_part7_eq_skeleton]
  unfold k0_part7_skel
  simp only [Prog.lift, Prog.bind_op, Prog.bind_ret, Prog.pure_eq_ret]
  iintro ⟨#HR, #Hlev, HO, Hc5, Hc13, Hc6, Hat5, Hat13, Hat6, Hk⟩
  iapply (wp_take m K c 4 (s := (((cc0_scratch8.slice (Rect.unit (s := S8) ![4] S1.size inb_S8_S1_4)).squeeze S_ squeezes_S1_S_).sem)) (dS 5) rfl rfl (by decide) (src := (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (dst := (((Memref.whole cc0_scratch3 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) NH rfl rfl (due.drop 12) (by decide)) $$ [HO Hc5 Hat5]
  · isplitr; · iexact HR
    isplitr; · iexact Hlev
    isplitl [Hc5]; · iexact Hc5
    isplitl [HO]; · iexact HO
    iexact Hat5
  iintro ⟨HO, Hz5, Hp5⟩
  iapply (wp_take m K c 12 (s := (((cc0_scratch9.slice (Rect.unit (s := S8) ![4] S1.size inb_S8_S1_4)).squeeze S_ squeezes_S1_S_).sem)) (dS 13) rfl rfl (by decide) (src := (((Memref.whole cc0_scratch3 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (dst := (((Memref.whole cc0_scratch1 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) NH rfl rfl (due.drop 12) (by decide)) $$ [HO Hc13 Hat13]
  · isplitr; · iexact HR
    isplitr; · iexact Hlev
    isplitl [Hc13]; · iexact Hc13
    isplitl [HO]; · iexact HO
    iexact Hat13
  iintro ⟨HO, Hz13, Hp13⟩
  iapply (wp_take m K c 5 (s := (((cc0_scratch8.slice (Rect.unit (s := S8) ![5] S1.size inb_S8_S1_5)).squeeze S_ squeezes_S1_S_).sem)) (dS 6) rfl rfl (by decide) (src := (((Memref.whole cc0_scratch2 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (dst := (((Memref.whole cc0_scratch4 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) NH rfl rfl (due.drop 12) (by decide)) $$ [HO Hc6 Hat6]
  · isplitr; · iexact HR
    isplitr; · iexact Hlev
    isplitl [Hc6]; · iexact Hc6
    isplitl [HO]; · iexact HO
    iexact Hat6
  iintro ⟨HO, Hz6, Hp6⟩
  rw [wp_ret]
  imodintro
  iapply Hk
  isplitl [HO]; · iexact HO
  isplitl [Hz5]; · iexact Hz5
  isplitl [Hz13]; · iexact Hz13
  isplitl [Hz6]; · iexact Hz6
  isplitl [Hp5]; · iexact Hp5
  isplitl [Hp13]; · iexact Hp13
  iexact Hp6

/-- Part 8 at the kernel's buffers. -/
def part8 (v13 : BitVec 32) : Prog (TpuEff nD τ sig (Elt F) Λ₀ .tc) (PUnit) :=
  k0_part8 (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 v13

/-- PART 8: three more. -/
theorem wp_part8 (c : Dev nD) (x : BitVec 32) {Kt : PUnit → sProp 𝕄} :
    iprop(records m K ∗ levAts L lv ∗ owing c (due.drop 12)
        ∗ cred (tallyAt (cl c (.dma (dS 14))) () NH) ∗ cred (tallyAt (cl c (.dma (dS 7))) () NH) ∗ cred (tallyAt (cl c (.dma (dS 15))) () NH)
        ∗ atPos ER (cl c (.dma (dS 14))) 0 ∅ 0 ∗ atPos ER (cl c (.dma (dS 7))) 0 ∅ 0 ∗ atPos ER (cl c (.dma (dS 15))) 0 ∅ 0
        ∗ ((owing c (due.drop 12) ∗ semVal (cl c (.dma (dS 14))) 0 ∗ semVal (cl c (.dma (dS 7))) 0 ∗ semVal (cl c (.dma (dS 15))) 0
            ∗ pay m c 14 0 false ∗ pay m c 7 0 false ∗ pay m c 15 0 false) -∗ Kt ⟨⟩))
      ⊢ wp frame (wpE (defs₀ (F := F)) 𝒱₀ (c : Thread nD τ) none) Set.univ (part8 (F := F) x) Kt := by
  unfold part8
  simp only [k0_part8_eq_skeleton]
  unfold k0_part8_skel
  simp only [Prog.lift, Prog.bind_op, Prog.bind_ret, Prog.pure_eq_ret]
  iintro ⟨#HR, #Hlev, HO, Hc14, Hc7, Hc15, Hat14, Hat7, Hat15, Hk⟩
  iapply (wp_take m K c 13 (s := (((cc0_scratch9.slice (Rect.unit (s := S8) ![5] S1.size inb_S8_S1_5)).squeeze S_ squeezes_S1_S_).sem)) (dS 14) rfl rfl (by decide) (src := (((Memref.whole cc0_scratch4 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) (dst := (((Memref.whole cc0_scratch2 : Memref sig .tc .vmem S2x2048x512 .bf16).slice (Rect.unit (s := S2x2048x512) ![0, 0, 0] S1x2048x512.size inb_S2x2048x512_S1x2048x512_0_0_0) (fun _ => rfl)).squeeze S2048x512 squeezes_S1x2048x512_S2048x512)) NH rfl rfl (due.drop 12) (by decide)) $$ [HO Hc14 Hat14]
  · isplitr; · iexact HR
    isplitr; · iexact Hlev
    isplitl [Hc14]; · iexact Hc14
    isplitl [HO]; · iexact HO
    iexact Hat14
  iintro ⟨HO, Hz14, Hp14⟩
  iapply (wp_take m K c 6 (s := (((cc0_scratch8.slice (Rect.unit (s := S8) ![6] S1.size inb_S8_S1_6)).squeeze S_ squeezes_S1_S_).sem)) (dS 7) rfl rfl (by decide) (src := (((Memref.whole cc0_scratch1 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (dst := (((Memref.whole cc0_scratch5 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) NH rfl rfl (due.drop 12) (by decide)) $$ [HO Hc7 Hat7]
  · isplitr; · iexact HR
    isplitr; · iexact Hlev
    isplitl [Hc7]; · iexact Hc7
    isplitl [HO]; · iexact HO
    iexact Hat7
  iintro ⟨HO, Hz7, Hp7⟩
  iapply (wp_take m K c 14 (s := (((cc0_scratch9.slice (Rect.unit (s := S8) ![6] S1.size inb_S8_S1_6)).squeeze S_ squeezes_S1_S_).sem)) (dS 15) rfl rfl (by decide) (src := (((Memref.whole cc0_scratch5 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (dst := (((Memref.whole cc0_scratch1 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) NH rfl rfl (due.drop 12) (by decide)) $$ [HO Hc15 Hat15]
  · isplitr; · iexact HR
    isplitr; · iexact Hlev
    isplitl [Hc15]; · iexact Hc15
    isplitl [HO]; · iexact HO
    iexact Hat15
  iintro ⟨HO, Hz15, Hp15⟩
  rw [wp_ret]
  imodintro
  iapply Hk
  isplitl [HO]; · iexact HO
  isplitl [Hz14]; · iexact Hz14
  isplitl [Hz7]; · iexact Hz7
  isplitl [Hz15]; · iexact Hz15
  isplitl [Hp14]; · iexact Hp14
  isplitl [Hp7]; · iexact Hp7
  iexact Hp15

end Cert.RingAttn
-- ==== Proof.Body6.lean ====
/-
  The kernel's body run whole: its eight parts, the last waits, and the last four sweeps.
-/
module

public import proofs.«01_k».proof.Proof.Body5

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 19 → ℕ)

/-- The loops of the last four sweeps are `moreBody` and `lastBody` at the kernel's buffers. -/
theorem sweep5_eq : k0_t5_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11
    = moreBody (F := F) k0_t5_loop k0_off9 k0_off10 k0_off9_inb k0_off10_inb ![0, 0, 0] inb_S2x2048x512_S1x2048x512_0_0_0 (Memref.whole cc0_scratch5) (Memref.whole cc0_scratch6) := rfl
theorem sweep6_eq : k0_t6_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11
    = moreBody (F := F) k0_t6_loop k0_off11 k0_off12 k0_off11_inb k0_off12_inb ![1, 0, 0] inb_S2x2048x512_S1x2048x512_1_0_0 (Memref.whole cc0_scratch5) (Memref.whole cc0_scratch6) := rfl
theorem sweep7_eq : k0_t7_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11
    = moreBody (F := F) k0_t7_loop k0_off13 k0_off14 k0_off13_inb k0_off14_inb ![0, 0, 0] inb_S2x2048x512_S1x2048x512_0_0_0 (Memref.whole cc0_scratch1) (Memref.whole cc0_scratch2) := rfl
theorem sweep8_eq : k0_t8_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11
    = lastBody (F := F) k0_t8_loop k0_off15 k0_off16 k0_off15_inb k0_off16_inb ![1, 0, 0] inb_S2x2048x512_S1x2048x512_1_0_0 (Memref.whole cc0_scratch1) (Memref.whole cc0_scratch2) := rfl

/-- The duty tokens device c starts with: of its own transfers, of its three stage copies, of the transfers it starts
    towards its two neighbours, and of the signals it sends them. -/
def tokens (c : Dev nD) : sProp 𝕄 :=
  iprop(dutyTok ER (cl c (.dma (dS 1))) 0 false
        ∗ dutyTok ER (cl c (.dma (dS 2))) 0 false
        ∗ dutyTok ER (cl c (.dma (dS 3))) 0 false
        ∗ dutyTok ER (cl c (.dma (dS 4))) 0 false
        ∗ dutyTok ER (cl c (.dma (dS 5))) 0 false
        ∗ dutyTok ER (cl c (.dma (dS 6))) 0 false
        ∗ dutyTok ER (cl c (.dma (dS 7))) 0 false
        ∗ dutyTok ER (cl c (.dma (dS 8))) 0 false
        ∗ dutyTok ER (cl c (.dma (dS 17))) 0 false
        ∗ dutyTok ER (cl c (.dma (dS 17))) 1 false
        ∗ dutyTok ER (cl c (.dma (dS 17))) 2 false
        ∗ dutyTok ER (cl (nxt c) (.dma (dS 9))) 0 false
        ∗ dutyTok ER (cl (nxt c) (.dma (dS 10))) 0 false
        ∗ dutyTok ER (cl (prv c) (.dma (dS 11))) 0 false
        ∗ dutyTok ER (cl (prv c) (.dma (dS 12))) 0 false
        ∗ dutyTok ER (cl (nxt c) (.dma (dS 13))) 0 false
        ∗ dutyTok ER (cl (nxt c) (.dma (dS 14))) 0 false
        ∗ dutyTok ER (cl (prv c) (.dma (dS 15))) 0 false
        ∗ dutyTok ER (cl (prv c) (.dma (dS 16))) 0 false
        ∗ dutyTok ER (cl (prv c) (.reg (1 : Fin 2))) 0 true
        ∗ dutyTok ER (cl (nxt c) (.reg (1 : Fin 2))) 0 false
        ∗ dutyTok ER (cl (prv c) (.reg (0 : Fin 2))) 0 true
        ∗ dutyTok ER (cl (nxt c) (.reg (0 : Fin 2))) 0 false)
/-- Its places in its nineteen cells. -/
def places (c : Dev nD) : sProp 𝕄 :=
  iprop(atPos ER (cl c (.dma (dS 1))) 0 ∅ 0
        ∗ atPos ER (cl c (.dma (dS 2))) 0 ∅ 0
        ∗ atPos ER (cl c (.dma (dS 3))) 0 ∅ 0
        ∗ atPos ER (cl c (.dma (dS 4))) 0 ∅ 0
        ∗ atPos ER (cl c (.dma (dS 5))) 0 ∅ 0
        ∗ atPos ER (cl c (.dma (dS 6))) 0 ∅ 0
        ∗ atPos ER (cl c (.dma (dS 7))) 0 ∅ 0
        ∗ atPos ER (cl c (.dma (dS 8))) 0 ∅ 0
        ∗ atPos ER (cl c (.dma (dS 9))) 0 ∅ 0
        ∗ atPos ER (cl c (.dma (dS 10))) 0 ∅ 0
        ∗ atPos ER (cl c (.dma (dS 11))) 0 ∅ 0
        ∗ atPos ER (cl c (.dma (dS 12))) 0 ∅ 0
        ∗ atPos ER (cl c (.dma (dS 13))) 0 ∅ 0
        ∗ atPos ER (cl c (.dma (dS 14))) 0 ∅ 0
        ∗ atPos ER (cl c (.dma (dS 15))) 0 ∅ 0
        ∗ atPos ER (cl c (.dma (dS 16))) 0 ∅ 0
        ∗ atPos ER (cl c (.dma (dS 17))) 0 ∅ 0
        ∗ atPos ER (cl c (.reg (1 : Fin 2))) 0 ∅ 0
        ∗ atPos ER (cl c (.reg (0 : Fin 2))) 0 ∅ 0)
/-- The credits it waits with: what its neighbours owe it. -/
def credits (c : Dev nD) : sProp 𝕄 :=
  iprop(cred (tallyAt (cl c (.dma (dS 9))) () NW)
        ∗ cred (tallyAt (cl c (.dma (dS 10))) () NW)
        ∗ cred (tallyAt (cl c (.dma (dS 11))) () NW)
        ∗ cred (tallyAt (cl c (.dma (dS 12))) () NW)
        ∗ cred (tallyAt (cl c (.dma (dS 13))) () NH)
        ∗ cred (tallyAt (cl c (.dma (dS 14))) () NH)
        ∗ cred (tallyAt (cl c (.dma (dS 15))) () NH)
        ∗ cred (tallyAt (cl c (.dma (dS 16))) () NH)
        ∗ cred (tallyAt (cl c (.reg (1 : Fin 2))) () 2)
        ∗ cred (tallyAt (cl c (.reg (0 : Fin 2))) () 2))
/-- Its argument arrays. -/
def arrays (c : Dev nD) : sProp 𝕄 :=
  iprop(((c : Thread nD τ).loc main_arg0 ↦{fullShare} Aq m c) ∗ ((c : Thread nD τ).loc main_arg1 ↦{fullShare} Ak m c) ∗ ((c : Thread nD τ).loc main_arg2 ↦{fullShare} Av m c))
/-- Its scratch buffers, whatever is in them. -/
def scratch (c : Dev nD) : sProp 𝕄 :=
  iprop((∃ f, (c : Thread nD τ).loc cc0_scratch0 ↦{fullShare} f)
        ∗ (∃ f, (c : Thread nD τ).loc cc0_scratch1 ↦{fullShare} f)
        ∗ (∃ f, (c : Thread nD τ).loc cc0_scratch2 ↦{fullShare} f)
        ∗ (∃ f, (c : Thread nD τ).loc cc0_scratch3 ↦{fullShare} f)
        ∗ (∃ f, (c : Thread nD τ).loc cc0_scratch4 ↦{fullShare} f)
        ∗ (∃ f, (c : Thread nD τ).loc cc0_scratch5 ↦{fullShare} f)
        ∗ (∃ f, (c : Thread nD τ).loc cc0_scratch6 ↦{fullShare} f)
        ∗ (∃ f, (c : Thread nD τ).loc cc0_scratch7 ↦{fullShare} f))
/-- Its own semaphores, back at zero. -/
def zeros (c : Dev nD) : sProp 𝕄 :=
  iprop(semVal (cl c (.dma (dS 1))) 0
        ∗ semVal (cl c (.dma (dS 2))) 0
        ∗ semVal (cl c (.dma (dS 3))) 0
        ∗ semVal (cl c (.dma (dS 4))) 0
        ∗ semVal (cl c (.dma (dS 5))) 0
        ∗ semVal (cl c (.dma (dS 6))) 0
        ∗ semVal (cl c (.dma (dS 7))) 0
        ∗ semVal (cl c (.dma (dS 8))) 0
        ∗ semVal (cl c (.dma (dS 9))) 0
        ∗ semVal (cl c (.dma (dS 10))) 0
        ∗ semVal (cl c (.dma (dS 11))) 0
        ∗ semVal (cl c (.dma (dS 12))) 0
        ∗ semVal (cl c (.dma (dS 13))) 0
        ∗ semVal (cl c (.dma (dS 14))) 0
        ∗ semVal (cl c (.dma (dS 15))) 0
        ∗ semVal (cl c (.dma (dS 16))) 0
        ∗ semVal (cl c (.dma (dS 17))) 0
        ∗ semVal (cl c (.reg (0 : Fin 2))) 0)

set_option maxHeartbeats 4000000 in
/-- THE BODY: from what device c starts with, the kernel leaves its buffers and arrays back, its semaphores at zero, and
    `outAt` in its output buffer. -/
theorem wp_body (c : Dev nD) {Kt : PUnit → sProp 𝕄} :
    iprop(records m K ∗ levAts L lv ∗ owing c (due.drop 0) ∗ tokens c ∗ places c ∗ credits c ∗ arrays m c ∗ scratch c
        ∗ (∃ f, (c : Thread nD τ).loc cc0_stg0_0 ↦{fullShare} f)
        ∗ ((owing c (due.drop 12) ∗ zeros c ∗ semVal (cl c (.reg (1 : Fin 2))) 0 ∗ arrays m c ∗ scratch c
            ∗ ((c : Thread nD τ).loc cc0_stg0_0 ↦{fullShare} outAt m c)) -∗ Kt ⟨⟩))
      ⊢ wp frame (wpE (defs₀ (F := F)) 𝒱₀ (c : Thread nD τ) none) Set.univ (cc0_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11) Kt := by
  simp only [cc0_body_eq_skeleton]
  unfold cc0_body_skel
  simp only [k0_part9_eq_skeleton]
  unfold k0_part9_skel
  simp only [Prog.lift, Prog.bind_op, Prog.bind_ret, Prog.pure_eq_ret]
  unfold tokens places credits
  iintro ⟨#HR, #Hlev, HO, ⟨Ht1, Ht2, Ht3, Ht4, Ht5, Ht6, Ht7, Ht8, Hg0, Hg1, Hg2, Hu9, Hu10, Hu11, Hu12, Hu13, Hu14, Hu15, Hu16, Hb1, Hb2, Hd1, Hd2⟩, ⟨Hat1, Hat2, Hat3, Hat4, Hat5, Hat6, Hat7, Hat8, Hat9, Hat10, Hat11, Hat12, Hat13, Hat14, Hat15, Hat16, Hat17, HatB, HatR⟩, ⟨Hc9, Hc10, Hc11, Hc12, Hc13, Hc14, Hc15, Hc16, HcB, HcR⟩, Harr, Hscr, Hf, Hk⟩
  ihave Harr := (show arrays m c ⊢ (iprop(((c : Thread nD τ).loc main_arg0 ↦{fullShare} Aq m c) ∗ ((c : Thread nD τ).loc main_arg1 ↦{fullShare} Ak m c) ∗ ((c : Thread nD τ).loc main_arg2 ↦{fullShare} Av m c)) : sProp 𝕄) from BIBase.Entails.rfl) $$ Harr
  icases Harr with ⟨Ha0, Ha1, Ha2⟩
  ihave Hscr := (show scratch c ⊢ (iprop((∃ f, (c : Thread nD τ).loc cc0_scratch0 ↦{fullShare} f) ∗ (∃ f, (c : Thread nD τ).loc cc0_scratch1 ↦{fullShare} f) ∗ (∃ f, (c : Thread nD τ).loc cc0_scratch2 ↦{fullShare} f) ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f) ∗ (∃ f, (c : Thread nD τ).loc cc0_scratch6 ↦{fullShare} f) ∗ (∃ f, (c : Thread nD τ).loc cc0_scratch7 ↦{fullShare} f)) : sProp 𝕄) from BIBase.Entails.rfl) $$ Hscr
  icases Hscr with ⟨H0, H1, H2, H3, H4, H5, H6, H7⟩
  rw [wp_bind]
  rw [wp_bind]
  iapply (wp_part1 m K c)
  isplitr; · iexact HR
  isplitr; · iexact Hlev
  isplitl [HO]; · iexact HO
  isplitl [Hb1]; · iexact Hb1
  isplitl [Hb2]; · iexact Hb2
  isplitl [H3]; · iexact H3
  isplitl [H4]; · iexact H4
  isplitl [H5]; · iexact H5
  isplitl [H6]; · iexact H6
  isplitl [HcB]; · iexact HcB
  isplitl [HatB]; · iexact HatB
  isplitl [Hg0]; · iexact Hg0
  isplitl [Hat17]; · iexact Hat17
  isplitl [Ha1]; · iexact Ha1
  isplitl [Hf]; · iexact Hf
  iintro %x %y ⟨HO, HzB, HpBf, HpBt, Hat17, Hr17, Hp17⟩
  dsimp only
  ihave Hp17 := (show pay m c 17 0 false ⊢ (iprop(((c : Thread nD τ).loc cc0_stg0_0 ↦{fullShare} Ak m c) ∗ ((c : Thread nD τ).loc main_arg1 ↦{fullShare} Ak m c)) : sProp 𝕄) from BIBase.Entails.rfl) $$ Hp17
  icases Hp17 with ⟨Hf, Ha1⟩
  ihave HpBt := (show pay m c 19 0 true ⊢ (iprop((∃ f, (nxt c : Thread nD τ).loc cc0_scratch3 ↦{fullShare} f) ∗ (∃ f, (nxt c : Thread nD τ).loc cc0_scratch4 ↦{fullShare} f)) : sProp 𝕄) from BIBase.Entails.rfl) $$ HpBt
  icases HpBt with ⟨N3, N4⟩
  ihave HpBf := (show pay m c 19 0 false ⊢ (iprop((∃ f, (prv c : Thread nD τ).loc cc0_scratch5 ↦{fullShare} f) ∗ (∃ f, (prv c : Thread nD τ).loc cc0_scratch6 ↦{fullShare} f)) : sProp 𝕄) from BIBase.Entails.rfl) $$ HpBf
  icases HpBf with ⟨P5, P6⟩
  rw [wp_bind]
  iapply (wp_part2 m K c x y)
  isplitr; · iexact HR
  isplitr; · iexact Hlev
  isplitl [HO]; · iexact HO
  isplitl [Hf]; · iexact Hf
  isplitl [H1]; · iexact H1
  isplitl [H2]; · iexact H2
  isplitl [N3]; · iexact N3
  isplitl [P5]; · iexact P5
  isplitl [Ht1]; · iexact Ht1
  isplitl [Hu9]; · iexact Hu9
  isplitl [Ht3]; · iexact Ht3
  isplitl [Hu11]; · iexact Hu11
  isplitl [Hg1]; · iexact Hg1
  isplitl [Hat17]; · iexact Hat17
  isplitl [Hr17]; · iexact Hr17
  isplitl [Ha2]; · iexact Ha2
  iintro ⟨HO, Hc1, Hc3, H1, H2, Hat17, Hr17, Hf, Ha2⟩
  rw [wp_bind]
  iapply (wp_part3 m K c x y)
  isplitr; · iexact HR
  isplitr; · iexact Hlev
  isplitl [HO]; · iexact HO
  isplitl [Hf]; · iexact Hf
  isplitl [H2]; · iexact H2
  isplitl [N4]; · iexact N4
  isplitl [P6]; · iexact P6
  isplitl [Ht2]; · iexact Ht2
  isplitl [Hu10]; · iexact Hu10
  isplitl [Ht4]; · iexact Ht4
  isplitl [Hu12]; · iexact Hu12
  isplitl [Hg2]; · iexact Hg2
  isplitl [Hat17]; · iexact Hat17
  isplitl [Hr17]; · iexact Hr17
  isplitl [Ha0]; · iexact Ha0
  isplitl [H0]; · iexact H0
  isplitl [H7]; · iexact H7
  isplitl [H1]; · iexact H1
  iintro ⟨HO, Hc2, Hc4, H1, H2, Hz17, Ha0, H0, H7, Hf⟩
  dsimp only
  rw [wp_bind]
  iapply (wp_part4 m K c x y _ _)
  isplitr; · iexact HR
  isplitr; · iexact Hlev
  isplitl [HO]; · iexact HO
  isplitl [H1]; · iexact H1
  isplitl [H2]; · iexact H2
  isplitl [H0]; · iexact H0
  isplitl [H7]; · iexact H7
  isplitl [Hf]; · iexact Hf
  isplitl [Hc1]; · iexact Hc1
  isplitl [Hc9]; · iexact Hc9
  isplitl [Hc3]; · iexact Hc3
  isplitl [Hc11]; · iexact Hc11
  isplitl [Hc2]; · iexact Hc2
  isplitl [Hc10]; · iexact Hc10
  isplitl [Hc4]; · iexact Hc4
  isplitl [Hat1]; · iexact Hat1
  isplitl [Hat9]; · iexact Hat9
  isplitl [Hat3]; · iexact Hat3
  isplitl [Hat11]; · iexact Hat11
  isplitl [Hat2]; · iexact Hat2
  isplitl [Hat10]; · iexact Hat10
  isplitl [Hat4]; · iexact Hat4
  iintro ⟨HO, H1, H2, H0, H7, Hf, Hz1, Hz9, Hz3, Hz11, Hz2, Hz10, Hz4, Hp1, Hp9, Hp3, Hp11, Hp2, Hp10, Hp4⟩
  rw [wp_bind]
  ihave H3 := (show pay m c 9 0 false ⊢ (((c : Thread nD τ).loc cc0_scratch3 ↦{fullShare} KP m (prv c)) : sProp 𝕄) from BIBase.Entails.rfl) $$ Hp9
  iapply (wp_part5 m K c x y _)
  isplitr; · iexact HR
  isplitr; · iexact Hlev
  isplitl [HO]; · iexact HO
  isplitl [H1]; · iexact H1
  isplitl [H2]; · iexact H2
  isplitl [Hp1]; · iexact Hp1
  isplitl [Hp3]; · iexact Hp3
  isplitl [Hp2]; · iexact Hp2
  isplitl [Hp4]; · iexact Hp4
  isplitl [Hc12]; · iexact Hc12
  isplitl [Hat12]; · iexact Hat12
  isplitl [Hd1]; · iexact Hd1
  isplitl [Hd2]; · iexact Hd2
  isplitl [HcR]; · iexact HcR
  isplitl [HatR]; · iexact HatR
  isplitl [H3]; · iexact H3
  isplitl [Ht5]; · iexact Ht5
  isplitl [Hu13]; · iexact Hu13
  iintro ⟨HO, Hz12, Hp12, HzR, N2, P12, Hc5, H3r, H3b⟩
  rw [wp_bind]
  iapply (wp_part6 m K c x)
  isplitr; · iexact HR
  isplitr; · iexact Hlev
  isplitl [HO]; · iexact HO
  isplitl [N2]; · iexact N2
  isplitl [P12]; · iexact P12
  isplitl [Hp10]; · iexact Hp10
  isplitl [Hp11]; · iexact Hp11
  isplitl [Hp12]; · iexact Hp12
  isplitl [Ht6]; · iexact Ht6
  isplitl [Hu14]; · iexact Hu14
  isplitl [Ht7]; · iexact Ht7
  isplitl [Hu15]; · iexact Hu15
  isplitl [Ht8]; · iexact Ht8
  isplitl [Hu16]; · iexact Hu16
  isplitl [H3r]; · iexact H3r
  isplitl [H3b]; · iexact H3b
  isplitl [H0]; · iexact H0
  isplitl [H7]; · iexact H7
  isplitl [Hf]; · iexact Hf
  iintro ⟨HO, Hc6, Hc7, Hc8, H3r, H4r, H3b, H4b, H5a, H6a, H0, H7, Hf⟩
  rw [wp_bind]
  iapply (wp_part7 m K c _)
  isplitr; · iexact HR
  isplitr; · iexact Hlev
  isplitl [HO]; · iexact HO
  isplitl [Hc5]; · iexact Hc5
  isplitl [Hc13]; · iexact Hc13
  isplitl [Hc6]; · iexact Hc6
  isplitl [Hat5]; · iexact Hat5
  isplitl [Hat13]; · iexact Hat13
  isplitl [Hat6]; · iexact Hat6
  iintro ⟨HO, Hz5, Hz13, Hz6, Hp5, Hp13, Hp6⟩
  rw [wp_bind]
  iapply (wp_part8 m K c _)
  isplitr; · iexact HR
  isplitr; · iexact Hlev
  isplitl [HO]; · iexact HO
  isplitl [Hc14]; · iexact Hc14
  isplitl [Hc7]; · iexact Hc7
  isplitl [Hc15]; · iexact Hc15
  isplitl [Hat14]; · iexact Hat14
  isplitl [Hat7]; · iexact Hat7
  isplitl [Hat15]; · iexact Hat15
  iintro ⟨HO, Hz14, Hz7, Hz15, Hp14, Hp7, Hp15⟩
  iapply (wp_take m K c 7 (s := (((cc0_scratch8.slice (Rect.unit (s := S8) ![7] S1.size inb_S8_S1_7)).squeeze S_ squeezes_S1_S_).sem)) (dS 8) rfl rfl (by decide) (src := (((Memref.whole cc0_scratch2 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (dst := (((Memref.whole cc0_scratch6 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) NH rfl rfl (due.drop 12) (by decide)) $$ [HO Hc8 Hat8]
  · isplitr; · iexact HR
    isplitr; · iexact Hlev
    isplitl [Hc8]; · iexact Hc8
    isplitl [HO]; · iexact HO
    iexact Hat8
  iintro ⟨HO, Hz8, Hp8⟩
  iapply (wp_take m K c 15 (s := (((cc0_scratch9.slice (Rect.unit (s := S8) ![7] S1.size inb_S8_S1_7)).squeeze S_ squeezes_S1_S_).sem)) (dS 16) rfl rfl (by decide) (src := (((Memref.whole cc0_scratch6 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) (dst := (((Memref.whole cc0_scratch2 : Memref sig .tc .vmem S2x2048x512 .bf16).slice (Rect.unit (s := S2x2048x512) ![1, 0, 0] S1x2048x512.size inb_S2x2048x512_S1x2048x512_1_0_0) (fun _ => rfl)).squeeze S2048x512 squeezes_S1x2048x512_S2048x512)) NH rfl rfl (due.drop 12) (by decide)) $$ [HO Hc16 Hat16]
  · isplitr; · iexact HR
    isplitr; · iexact Hlev
    isplitl [Hc16]; · iexact Hc16
    isplitl [HO]; · iexact HO
    iexact Hat16
  iintro ⟨HO, Hz16, Hp16⟩
  ihave Hp5 := (show pay m c 5 0 false ⊢ (((c : Thread nD τ).loc cc0_scratch3 ↦[H 0]{fullShare.left} KP m (prv c)) : sProp 𝕄) from BIBase.Entails.rfl) $$ Hp5
  ihave Hp6 := (show pay m c 6 0 false ⊢ (((c : Thread nD τ).loc cc0_scratch4 ↦[H 0]{fullShare.left} VP m (prv c)) : sProp 𝕄) from BIBase.Entails.rfl) $$ Hp6
  ihave Hp7 := (show pay m c 7 0 false ⊢ (((c : Thread nD τ).loc cc0_scratch5 ↦[H 1]{fullShare} KP m (nxt c)) : sProp 𝕄) from BIBase.Entails.rfl) $$ Hp7
  ihave Hp8 := (show pay m c (slot (.dma (dS 8))) 0 false ⊢ (((c : Thread nD τ).loc cc0_scratch6 ↦[H 1]{fullShare} VP m (nxt c)) : sProp 𝕄) from BIBase.Entails.rfl) $$ Hp8
  ihave Hp13 := (show pay m c 13 0 false ⊢ (((c : Thread nD τ).loc cc0_scratch1 ↦[H 0]{fullShare} KP m (prv (prv c))) : sProp 𝕄) from BIBase.Entails.rfl) $$ Hp13
  ihave Hp14 := (show pay m c 14 0 false ⊢ (((c : Thread nD τ).loc cc0_scratch2 ↦[H 0]{fullShare} VP m (prv (prv c))) : sProp 𝕄) from BIBase.Entails.rfl) $$ Hp14
  ihave Hp15 := (show pay m c 15 0 false ⊢ (((c : Thread nD τ).loc cc0_scratch1 ↦[H 1]{fullShare} KP m (nxt (nxt c))) : sProp 𝕄) from BIBase.Entails.rfl) $$ Hp15
  ihave Hp16 := (show pay m c (slot (.dma (dS 16))) 0 false ⊢ (((c : Thread nD τ).loc cc0_scratch2 ↦[H 1]{fullShare} VP m (nxt (nxt c))) : sProp 𝕄) from BIBase.Entails.rfl) $$ Hp16
  rw [wp_bind]
  rw [sweep5_eq]
  iapply (wp_more c k0_t5_loop k0_t5_ok (by decide) k0_off9 k0_off10 k0_off9_inb k0_off10_inb k0_off9_eq k0_off10_eq ![0, 0, 0] inb_S2x2048x512_S1x2048x512_0_0_0
    (Memref.whole cc0_scratch5) (Memref.whole cc0_scratch6) (half 0 (KP m (nxt c))) (half 0 (VP m (nxt c))) (Sk := H 0) (Sv := H 0) within5_0 within6_0
    (fk := KP m (nxt c)) (fv := VP m (nxt c)) (read_half 0 ![0, 0, 0] rfl _ _) (read_half 0 ![0, 0, 0] rfl _ _) (Qs m c) (acc4 m c).1 (acc4 m c).2)
  unfold sweepHeld
  isplitl [H0 H5a H6a H7 Hf]
  · isplitl [H0]; · iexact H0
    isplitl [H5a]; · iexact H5a
    isplitl [H6a]; · iexact H6a
    isplitl [H7]; · iexact H7
    iexact Hf
  iintro ⟨H0, H5a, H6a, H7, Hf⟩
  rw [wp_bind]
  rw [sweep6_eq]
  iapply (wp_more c k0_t6_loop k0_t6_ok (by decide) k0_off11 k0_off12 k0_off11_inb k0_off12_inb k0_off11_eq k0_off12_eq ![1, 0, 0] inb_S2x2048x512_S1x2048x512_1_0_0
    (Memref.whole cc0_scratch5) (Memref.whole cc0_scratch6) (half 1 (KP m (nxt c))) (half 1 (VP m (nxt c))) (Sk := H 1) (Sv := H 1) within5_1 within6_1
    (fk := KP m (nxt c)) (fv := VP m (nxt c)) (read_half 1 ![1, 0, 0] rfl _ _) (read_half 1 ![1, 0, 0] rfl _ _) (Qs m c) (acc5 m c).1 (acc5 m c).2)
  unfold sweepHeld
  isplitl [H0 Hp7 Hp8 H7 Hf]
  · isplitl [H0]; · iexact H0
    isplitl [Hp7]; · iexact Hp7
    isplitl [Hp8]; · iexact Hp8
    isplitl [H7]; · iexact H7
    iexact Hf
  iintro ⟨H0, Hp7, Hp8, H7, Hf⟩
  rw [wp_bind]
  rw [sweep7_eq]
  iapply (wp_more c k0_t7_loop k0_t7_ok (by decide) k0_off13 k0_off14 k0_off13_inb k0_off14_inb k0_off13_eq k0_off14_eq ![0, 0, 0] inb_S2x2048x512_S1x2048x512_0_0_0
    (Memref.whole cc0_scratch1) (Memref.whole cc0_scratch2) (half 0 (KP m (prv (prv c)))) (half 0 (VP m (prv (prv c)))) (Sk := H 0) (Sv := H 0) within1_0 within2_0
    (fk := KP m (prv (prv c))) (fv := VP m (prv (prv c))) (read_half 0 ![0, 0, 0] rfl _ _) (read_half 0 ![0, 0, 0] rfl _ _) (Qs m c) (acc6 m c).1 (acc6 m c).2)
  unfold sweepHeld
  isplitl [H0 Hp13 Hp14 H7 Hf]
  · isplitl [H0]; · iexact H0
    isplitl [Hp13]; · iexact Hp13
    isplitl [Hp14]; · iexact Hp14
    isplitl [H7]; · iexact H7
    iexact Hf
  iintro ⟨H0, Hp13, Hp14, H7, Hf⟩
  rw [wp_bind]
  rw [sweep8_eq]
  iapply (wp_finish c k0_t8_loop k0_t8_ok (by decide) k0_off15 k0_off16 k0_off15_inb k0_off16_inb k0_off15_eq k0_off16_eq ![1, 0, 0] inb_S2x2048x512_S1x2048x512_1_0_0
    (Memref.whole cc0_scratch1) (Memref.whole cc0_scratch2) (half 1 (KP m (nxt (nxt c)))) (half 1 (VP m (nxt (nxt c)))) (Sk := H 1) (Sv := H 1) within1_1 within2_1
    (fk := KP m (nxt (nxt c))) (fv := VP m (nxt (nxt c))) (read_half 1 ![1, 0, 0] rfl _ _) (read_half 1 ![1, 0, 0] rfl _ _) (Qs m c) (acc7 m c).1 (acc7 m c).2)
  unfold sweepHeld
  isplitl [H0 Hp15 Hp16 H7 Hf]
  · isplitl [H0]; · iexact H0
    isplitl [Hp15]; · iexact Hp15
    isplitl [Hp16]; · iexact Hp16
    isplitl [H7]; · iexact H7
    iexact Hf
  iintro ⟨H0, Hp15, Hp16, H7, Hf⟩
  rw [wp_ret]
  imodintro
  rw [wp_ret]
  imodintro
  iapply Hk
  isplitl [HO]; · iexact HO
  isplitl [Hz1 Hz2 Hz3 Hz4 Hz5 Hz6 Hz7 Hz8 Hz9 Hz10 Hz11 Hz12 Hz13 Hz14 Hz15 Hz16 Hz17 HzR]
  · unfold zeros
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    iexact HzR
  isplitl [HzB]; · iexact HzB
  isplitl [Ha0 Ha1 Ha2]
  · unfold arrays
    isplitl [Ha0]; · iexact Ha0
    isplitl [Ha1]; · iexact Ha1
    iexact Ha2
  isplitr [Hf]
  · unfold scratch
    isplitl [H0]; · iexists _; iexact H0
    isplitl [Hp13 Hp15]
    · iapply (patch halves_disjoint halves_union); isplitl [Hp13]; · iexact Hp13
      iexact Hp15
    isplitl [Hp14 Hp16]
    · iapply (patch halves_disjoint halves_union); isplitl [Hp14]; · iexact Hp14
      iexact Hp16
    isplitl [Hp5 H3r H3b]
    · iexists _; iapply (mend halves_disjoint halves_union); isplitl [Hp5 H3r]
      · iapply (unite fullShare); isplitl [Hp5]; · iexact Hp5
        iexact H3r
      iexact H3b
    isplitl [Hp6 H4r H4b]
    · iexists _; iapply (mend halves_disjoint halves_union); isplitl [Hp6 H4r]
      · iapply (unite fullShare); isplitl [Hp6]; · iexact Hp6
        iexact H4r
      iexact H4b
    isplitl [H5a Hp7]
    · iexists _; iapply (mend halves_disjoint halves_union); isplitl [H5a]; · iexact H5a
      iexact Hp7
    isplitl [H6a Hp8]
    · iexists _; iapply (mend halves_disjoint halves_union); isplitl [H6a]; · iexact H6a
      iexact Hp8
    iexists _; iexact H7
  iexact Hf

end Cert.RingAttn
-- ==== Proof.Launch.lean ====
/-
  The launch: the four devices start with what the body needs, and the whole program runs.
-/
module

public import proofs.«01_k».proof.Proof.Body6
public import proofs.«01_k».proof.Proof.Gen.KernelIdeal.Points
public import Idealize.ShloMosaic.Lib.Pipeline.CollectiveSegs

@[expose] public section

set_option maxRecDepth 16384

noncomputable section

namespace Cert.RingAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: the seventeen DMA semaphores it names and the credit semaphore. -/
abbrev osem (k : Fin 18) : SemLoc sig :=
  if h : k.val < 17 then .dma ⟨k.val + 1, by show k.val + 1 < 18; omega⟩ else .reg (0 : Fin 2)

theorem ownSemFacts : Pipeline.OwnSemFacts cfg0.spec osem := by decide

/-! ## What the body starts from and ends with -/

/-- What device c brings to the body, beside its scratch buffers. -/
def start (c : Dev nD) : sProp 𝕄 :=
  iprop((∃ K, records m K) ∗ tokens c ∗ places c ∗ credits c ∗ levAts L lv ∗ arrays m c)
/-- Before the body: that and the scratch buffers. -/
def Before (c : Dev nD) : sProp 𝕄 := iprop(start m c ∗ scratch c)
/-- After it: the semaphores at zero, the arrays as they were, the scratch buffers. -/
def After (c : Dev nD) : sProp 𝕄 := iprop(zeros c ∗ semVal (cl c (.reg (1 : Fin 2))) 0 ∗ arrays m c ∗ scratch c)

/-- The proof data of the one pipeline: the output buffer ends at `outAt`, and a device owes its payments at the start. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Before m c
    | ⟨_ + 1, _⟩ => After m c
  q _ := fullShare
  owed t := match t with
    | ⟨0, _⟩ => Ol c due
    | ⟨_ + 1, _⟩ => 0

theorem share_eq (c : Dev nD) (w : Fin cfg0.W) : (dats m ρ 0 c).share w = fullShare := by unfold Dat.share; split <;> rfl

/-- The one point of the grid. -/
def t₀ : Fin cfg0.N := t0_0

/-- The output's staging buffer at given contents. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0 ↦{fullShare} f))

def bodyPre (c : Dev nD) : sProp 𝕄 :=
  iprop(Before m c ∗ (dats m ρ 0 c).owesAt () t₀.castSucc ∗ (∃ d, stg c ((dats m ρ 0 c).before (0 : Fin 1) t₀ d)))
def bodyPost (c : Dev nD) : sProp 𝕄 :=
  iprop(After m c ∗ (dats m ρ 0 c).owesAt () t₀.succ ∗ stg c (outAt m c))

/-- The body at the kernel's buffers, from the one to the other. -/
theorem sound_body (c : Dev nD) :
    bodyPre m ρ c ⊢ wp frame (wpE (defs₀ (F := F)) 𝒱₀ (c : Thread nD τ) none) Set.univ (cc0_body (F := F) (Memref.whole main_arg0) (Memref.isWhole_whole _) (Memref.whole main_arg1) (Memref.isWhole_whole _) (Memref.whole main_arg2) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11) (fun _ => bodyPost m ρ c) := by
  unfold bodyPre Before start
  iintro ⟨⟨⟨⟨%K, #HR⟩, Ht, Hp, Hc, #Hlev, Harr⟩, Hscr⟩, Ho, ⟨%d, %g, %hg, Hf⟩⟩
  unfold Dat.owesAt Pipeline.owesWithin
  icases Ho with ⟨%W, %hW, HO⟩
  rw [show (dats m ρ 0 c).owed t₀.castSucc = Ol c due from rfl]
  iapply (wp_body m K c)
  isplitr; · iexact HR
  isplitr; · iexact Hlev
  isplitl [HO]; · unfold owing; iexists W; iexact HO
  isplitl [Ht]; · iexact Ht
  isplitl [Hp]; · iexact Hp
  isplitl [Hc]; · iexact Hc
  isplitl [Harr]; · iexact Harr
  isplitl [Hscr]; · iexact Hscr
  isplitl [Hf]; · iexists g; iexact Hf
  unfold owing
  iintro ⟨⟨%W', HO⟩, Hz, HzB, Harr, Hscr, Hf⟩
  unfold bodyPost After Dat.owesAt Pipeline.owesWithin
  rw [show (dats m ρ 0 c).owed t₀.succ = 0 from rfl]
  isplitl [Hz HzB Harr Hscr]
  · isplitl [Hz]; · iexact Hz
    isplitl [HzB]; · iexact HzB
    isplitl [Harr] <;> iassumption
  isplitl [HO]
  · iexists W'
    isplitr; · ipureintro; exact fun _ _ => Or.inl trivial
    iexact HO
  iexists _; isplitr; · (ipureintro; rfl)
  iexact Hf

set_option maxRecDepth 20000 in
/-- The same as the launch asks for it. -/
theorem body_obligation (c : Dev nD) : BodyObligation (dats (F := F) m ρ 0 c) (defs₀ (F := F)) 𝒱₀ () Set.univ := fun t => by
  rw [show t = t₀ from fin_N0 t]
  rw [show (Finset.univ : Finset (Fin cfg0.W)) = (Finset.univ : Finset (Fin 1)) from rfl, bigSep_W0, bigSep_W0]
  simp only [owns_whole_eq]
  exact sound_body m ρ c

/-! ## The cells and the duty tokens -/

theorem kcell_injective : Function.Injective (kcell : Dev nD × Fin 19 → GSem nD τ sig) := by
  rintro ⟨c, k⟩ ⟨c', k'⟩ h
  obtain rfl : c = c' := congrArg (fun g : GSem nD τ sig => g.1.1) h
  have hk : csem k = csem k' := congrArg Prod.snd h
  have : ∀ a b : Fin 19, csem a = csem b → a = b := by decide
  rw [this k k' hk]
/-- All the ring's cells. -/
def ringCells : Finset (GSem nD τ sig) := Finset.univ.map ⟨kcell, kcell_injective⟩

/-- The duties of a device's own cells: which semaphore, which round, which duty. -/
def duty (t : Fin 23) : SemLoc sig × ℕ × Bool :=
  if h : t.val < 8 then (.dma ⟨t.val + 1, by show t.val + 1 < 18; omega⟩, 0, false)
  else if t.val < 11 then (.dma (dS 17), t.val - 8, false)
  else if h : t.val < 19 then (.dma ⟨t.val - 2, by show t.val - 2 < 18; omega⟩, 0, false)
  else if t.val = 19 then (.reg (1 : Fin 2), 0, true)
  else if t.val = 20 then (.reg (1 : Fin 2), 0, false)
  else if t.val = 21 then (.reg (0 : Fin 2), 0, true)
  else (.reg (0 : Fin 2), 0, false)
/-- Whose cell it is that a device pays the duty to: its own, the next device's, or the previous one's. -/
def shift (t : Fin 23) : Dev nD ≃ Dev nD :=
  if t.val < 11 then Equiv.refl _
  else if t.val = 11 ∨ t.val = 12 ∨ t.val = 15 ∨ t.val = 16 ∨ t.val = 20 ∨ t.val = 22 then turn
  else turn.symm

theorem duty_injective : Function.Injective duty := by
  have : ∀ a b : Fin 23, duty a = duty b → a = b := by decide
  exact fun a b h => this a b h

abbrev tokOf (ct : Dev nD × Fin 23) : GSem nD τ sig × ℕ × Bool := (cl ct.1 (duty ct.2).1, (duty ct.2).2.1, (duty ct.2).2.2)
theorem tokOf_injective : Function.Injective (tokOf : Dev nD × Fin 23 → GSem nD τ sig × ℕ × Bool) := by
  rintro ⟨c, t⟩ ⟨c', t'⟩ h
  obtain rfl : c = c' := congrArg (fun x : GSem nD τ sig × ℕ × Bool => x.1.1.1) h
  have ht : duty t = duty t' := congrArg (fun x : GSem nD τ sig × ℕ × Bool => (x.1.2, x.2.1, x.2.2)) h
  rw [duty_injective ht]
/-- All the duty tokens. -/
def ringToks : Finset (GSem nD τ sig × ℕ × Bool) := Finset.univ.map ⟨tokOf, tokOf_injective⟩

/-- The launch element: the pipeline's own ghost state and the ring's. -/
def u₀ : UU :=
  (initOf (Pipeline.cells cfgs cellOf_inj) (Pipeline.launchToks cfgs cellOf_inj), initOf ringCells ringToks)

/-- The tokens of device `c`'s own cells. -/
def minted (c : Dev nD) : sProp 𝕄 := bigSep Finset.univ fun t : Fin 23 => dutyTok ER (tokOf (c, t)).1 (tokOf (c, t)).2.1 (tokOf (c, t)).2.2

/-- What the launch element deals device `c`. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ minted c)
/-- What the devices together make of it. -/
def G' (c : Dev nD) : sProp 𝕄 := iprop((∃ K, records m K) ∗ tokens c ∗ places c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9, 10, 11, 12, 13, 14, 15, 16, 17] (by decide) (by decide)]; rfl
theorem unscopedSems0_eq (c : Dev nD) : (unscopedSems0 c : sProp 𝕄) = semVal (cl c (.reg (1 : Fin 2))) 0 := by
  unfold unscopedSems0; rw [bigSep_eq_bigSepL_of_eq [SemLoc.reg (1 : Fin 2)] (by decide) (by decide)]; rfl

theorem bigSep_cells (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_cells]
  unfold zeros
  iintro ⟨⟨Z1, Z2, Z3, Z4, Z5, Z6, Z7, Z8, Z9, Z10, Z11, Z12, Z13, Z14, Z15, Z16, Z17, ZR⟩, ZB⟩
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [ZB]; · iexact ZB
  iexact ZR

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0 (F := F) c) $$ [Hos Hus]
  · isplitl [Hos] <;> iassumption
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat] <;> iassumption

/-! ## Handing the tokens round -/

theorem tokens_eq (c : Dev nD) :
    (bigSep Finset.univ fun t : Fin 23 => (dutyTok ER (tokOf (shift t c, t)).1 (tokOf (shift t c, t)).2.1 (tokOf (shift t c, t)).2.2 : sProp 𝕄)) = tokens c := by
  rw [bigSep_univ_eq_bigSepL [0, 1, 2, 3, 4, 5, 6, 7, 8, 9, 10, 11, 12, 13, 14, 15, 16, 17, 18, 19, 20, 21, 22] (by decide) (by decide)]; rfl

/-- Two finite separating products change places. -/
theorem swap_prod {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b :=
  (bigSep_univ_prod (fun ab : A × B => Φ ab.1 ab.2)).symm.trans
    ((bigSep_univ_equiv (Equiv.prodComm B A) (fun ab : A × B => Φ ab.1 ab.2)).trans (bigSep_univ_prod (fun ba : B × A => Φ ba.2 ba.1)))

/-- Every device gets the tokens of the duties it pays. -/
theorem tokens_round : (bigSep Finset.univ fun c : Dev nD => (minted c : sProp 𝕄)) ⊢ bigSep Finset.univ fun c : Dev nD => tokens c := by
  unfold minted
  rw [swap_prod (fun (c : Dev nD) (t : Fin 23) => (dutyTok ER (tokOf (c, t)).1 (tokOf (c, t)).2.1 (tokOf (c, t)).2.2 : sProp 𝕄)),
    bigSep_congr (s := Finset.univ) (fun (t : Fin 23) _ =>
      bigSep_univ_equiv (shift t) (fun c : Dev nD => (dutyTok ER (tokOf (c, t)).1 (tokOf (c, t)).2.1 (tokOf (c, t)).2.2 : sProp 𝕄))),
    swap_prod]
  exact bigSep_mono fun c _ => Entails.of_eq (tokens_eq c)

theorem places_eq (c : Dev nD) : (bigSep Finset.univ fun k : Fin 19 => (atPos ER (kcell (c, k)) 0 ∅ 0 : sProp 𝕄)) = places c := by
  rw [bigSep_cells]; rfl

theorem share_records (K : Dev nD × Fin 19 → ℕ) {Φ Ψ : Dev nD → sProp 𝕄} (h : ∀ c, iprop(records m K ∗ Φ c) ⊢ Ψ c) :
    iprop(records m K ∗ bigSep Finset.univ Φ) ⊢ bigSep Finset.univ Ψ :=
  (sep_mono_left (BI.bigSep_of_persistent Finset.univ (records m K))).trans (by rw [← bigSep_sep']; exact bigSep_mono fun c _ => h c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (tokens_round (F := F)) $$ Htok
  iapply (share_records m K (Φ := fun c => iprop(tokens c ∗ places c)) fun c => show _ ⊢ G' m c from by
    unfold G'
    iintro ⟨#H, Ht, Hp⟩
    isplitr; · iexists K; iexact H
    isplitl [Ht] <;> iassumption)
  isplitr
  · unfold records; isplitl; · iexact HI
    iexact HR
  · rw [bigSep_sep']
    isplitl [Htk]; · iexact Htk
    iapply (show (bigSep Finset.univ fun c : Dev nD => bigSep Finset.univ fun k : Fin 19 => (atPos ER (kcell (c, k)) 0 ∅ 0 : sProp 𝕄)) ⊢ bigSep Finset.univ places from
      bigSep_mono fun c _ => Entails.of_eq (places_eq (F := F) c))
    iexact Hat

/-- The step the devices take together: every cell's invariant is made, and the tokens go round. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem goto_goto (b : Bool) (c : Dev nD) : goto b (goto (!b) c) = c := by
  cases b
  · exact prv_nxt c
  · exact nxt_prv c

/-- A payment every device owes a neighbour is a credit for every device. -/
theorem credit_one (b : Bool) (s : SemLoc sig) (n : ℕ) (c : Dev nD) :
    (Pipeline.launchCred (fun d => tallyAt (cl (goto b d) s) () n) c : sProp 𝕄) ⊢ cred (tallyAt (cl c s) () n) := by
  refine (Pipeline.launchCred_elim _ c s).trans (Entails.of_eq (congrArg cred ?_))
  unfold tallyAt
  refine congrArg _ (Finsupp.ext fun u => ?_)
  cases u
  rw [Pipeline.launchCredit_owing, Finsupp.single_eq_same, Finset.sum_eq_single (goto (!b) c)]
  · show (tallyAt (cl (goto b (goto (!b) c)) s) () n : CellTallies nD τ sig Unit) (cl c s) () = n
    rw [goto_goto, tallyAt_self]
  · intro d _ hd
    show (tallyAt (cl (goto b d) s) () n : CellTallies nD τ sig Unit) (cl c s) () = 0
    rw [tallyAt_ne_cell (fun h => hd (by
      have e : c = goto b d := congrArg (fun g : GSem nD τ sig => g.1.1) h
      rw [e]
      have := goto_goto (!b) d
      rw [Bool.not_not] at this
      exact this.symm))]
    rfl
  · exact fun h => absurd (Finset.mem_univ _) h

/-- The credits of a list of payments. -/
def creditsOf (c : Dev nD) : List (Bool × SemLoc sig × ℕ) → sProp 𝕄
  | [] => iprop(emp)
  | x :: l => iprop(creditsOf c l ∗ cred (tallyAt (cl c x.2.1) () x.2.2))

theorem credit_list (c : Dev nD) : ∀ l : List (Bool × SemLoc sig × ℕ), (Pipeline.launchCred (fun d => Ol d l) c : sProp 𝕄) ⊢ creditsOf c l
  | [] => Entails.of_eq (Pipeline.launchCred_zero c)
  | x :: l => by
    refine (Entails.of_eq (Pipeline.launchCred_add (fun d => Ol d l) (fun d => tallyAt (cl (goto x.1 d) x.2.1) () x.2.2) c)).trans ?_
    exact BI.sep_mono (credit_list c l) (credit_one x.1 x.2.1 x.2.2 c)

theorem credits_intro (c : Dev nD) : (Pipeline.launchCred (fun d => Ol d due) c : sProp 𝕄) ⊢ credits c := by
  refine (credit_list c due).trans ?_
  refine (show creditsOf c due ⊢ (iprop((((((((((((emp ∗ cred (tallyAt (cl c (.dma (dS 16))) () NH)) ∗ cred (tallyAt (cl c (.dma (dS 15))) () NH))
      ∗ cred (tallyAt (cl c (.dma (dS 14))) () NH)) ∗ cred (tallyAt (cl c (.dma (dS 13))) () NH))
      ∗ cred (tallyAt (cl c (.reg (0 : Fin 2))) () 1)) ∗ cred (tallyAt (cl c (.reg (0 : Fin 2))) () 1))
      ∗ cred (tallyAt (cl c (.dma (dS 12))) () NW)) ∗ cred (tallyAt (cl c (.dma (dS 10))) () NW))
      ∗ cred (tallyAt (cl c (.dma (dS 11))) () NW)) ∗ cred (tallyAt (cl c (.dma (dS 9))) () NW))
      ∗ cred (tallyAt (cl c (.reg (1 : Fin 2))) () 1)) ∗ cred (tallyAt (cl c (.reg (1 : Fin 2))) () 1)) : sProp 𝕄) from BIBase.Entails.rfl).trans ?_
  iintro ⟨⟨⟨⟨⟨⟨⟨⟨⟨⟨⟨⟨-, H16⟩, H15⟩, H14⟩, H13⟩, R1⟩, R2⟩, H12⟩, H10⟩, H11⟩, H9⟩, B1⟩, B2⟩
  unfold credits
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [B1 B2]
  · iapply ((cred_add (tallyAt (cl c (.reg (1 : Fin 2))) () 1) (tallyAt (cl c (.reg (1 : Fin 2))) () 1)).2.trans (Entails.of_eq (by rw [tallyAt_add])))
    isplitl [B1] <;> iassumption
  · iapply ((cred_add (tallyAt (cl c (.reg (0 : Fin 2))) () 1) (tallyAt (cl c (.reg (0 : Fin 2))) () 1)).2.trans (Entails.of_eq (by rw [tallyAt_add])))
    isplitl [R1] <;> iassumption

/-! ## The launch's side conditions -/

theorem unscoped_eq (c : Dev nD) :
    (Pipeline.unscopedRestP (Ix := Unit) (Name := ℕ) (U := UU) (Lvl := ℕ) Pipeline.Prefetch.none cfg0.spec c (fun b => m ((c : Thread nD τ).loc b)) : sProp 𝕄) = arrays m c := by
  rw [Pipeline.unscopedRestP_eq_of_list cfg0.spec c Pipeline.Prefetch.none _ [main_arg0, main_arg1, main_arg2] (by decide) (by decide)]; rfl

theorem scratch_eq (c : Dev nD) :
    (Pipeline.scopedRest (Ix := Unit) (Name := ℕ) (U := UU) (Lvl := ℕ) (Val := Elt F) cfg0.spec c : sProp 𝕄) = scratch c :=
  scopedRest0_eq c

theorem start_intro (c : Dev nD) :
    iprop(Pipeline.unscopedRestP Pipeline.Prefetch.none cfg0.spec c (fun b => m ((c : Thread nD τ).loc b)) ∗ levAts L lv
        ∗ Pipeline.launchCred (fun d => Ol d due) c ∗ prngReg c (ρ c) ∗ G' m c)
      ⊢ |={Set.univ}=> iprop(start m c ∗ emp) := by
  rw [unscoped_eq]
  unfold G' start
  iintro ⟨Harr, Hlev, Hcr, -, HR, Ht, Hp⟩
  ihave Hc := (credits_intro (F := F) c) $$ Hcr
  imodintro
  isplitl
  · isplitl [HR]; · iexact HR
    isplitl [Ht]; · iexact Ht
    isplitl [Hp]; · iexact Hp
    isplitl [Hc]; · iexact Hc
    isplitl [Hlev] <;> iassumption
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Before m c from rfl, scratch_eq]
  unfold Before
  iintro ⟨Hs, -, Hr⟩
  isplitl [Hs] <;> iassumption

theorem after_exit (c : Dev nD) :
    (dats m ρ 0 c).Φ (Fin.last cfg0.N) ⊢ iprop((unscopedSems0 c ∗ arrays m c) ∗ Pipeline.ownSems0 osem c ∗ Pipeline.scopedRest cfg0.spec c) := by
  rw [show (dats m ρ 0 c).Φ (Fin.last cfg0.N) = After m c from rfl, scratch_eq, ownSems0_eq, unscopedSems0_eq]
  unfold After
  iintro ⟨Hz, HzB, Harr, Hscr⟩
  isplitl [HzB Harr]
  · isplitl [HzB] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_below c _ due (by fin_cases w <;> fin_cases s <;> decide)
    · exact mayWait_below c _ [] (fun x hx => absurd hx List.not_mem_nil)

/-! ## The run -/

/-- What every final memory satisfies: each device's arguments unchanged, its result array holding `finalOut`. -/
def finalOut (c : Dev nD) : Buf (Elt F) ((cfg0.win (0 : Fin 1)).arr.view.loc (c : Thread nD τ)) := (dats m ρ 0 c).arrAt (0 : Fin 1) cfg0.N

/-- A result array ends as `outAt`. -/
theorem finalOut_eq (c : Dev nD) : finalOut m ρ c = outAt m c := by
  have hb : (fun a => (win0_0.index (t0_0 : Fin cfg0.N)) a * main_v1.ty.shape.size a) = fun _ => 0 :=
    funext fun a => by fin_cases a <;> decide
  unfold finalOut
  rw [show cfg0.N = (t0_0 : Fin cfg0.N).val + 1 from rfl, (dats m ρ 0 c).arrAt_succ (0 : Fin 1) t0_0]
  rw [show (cfg0.win (0 : Fin 1)).flush t0_0 = true from flush0_0 t0_0, if_pos rfl]
  exact Memref.write_access_unit_zero_univ (Elt F) main_v1 hb (fun a => by fin_cases a <;> decide) _ _

/-- Reading the three argument arrays off the final memory. -/
theorem arrays_read (c : Dev nD) (s' : Phys nD τ sig (Elt F)) :
    iprop(arrays m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)
      ∧ s'.mem.mem ((c : Thread nD τ).loc main_arg2) = m ((c : Thread nD τ).loc main_arg2)⌝ ∗ SI s') : sProp 𝕄) := by
  unfold arrays
  iintro ⟨⟨H0, H1, H2⟩, HSI⟩
  icombine HSI H0 gives %h0
  icombine HSI H1 gives %h1
  icombine HSI H2 gives %h2
  isplitr
  · ipureintro
    exact ⟨Buf.eq_of_forall_mem_univ h0, Buf.eq_of_forall_mem_univ h1, Buf.eq_of_forall_mem_univ h2⟩
  iexact HSI

set_option maxRecDepth 16000 in
/-- THE RUN. From any memory with every counter at zero, every weakly fair execution of the program on the four devices
    ends, every device's result array holding `outAt`, its arguments unchanged, every semaphore counter at zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun d => Ol d due) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ arrays m c)) (Z := fun _ => iprop(emp))
    (hX := start_intro m ρ) (hin := before_intro m ρ) (hout := after_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hY := fun c s' => by
      iintro ⟨⟨Hu, Harr⟩, -, HSI⟩
      ihave H := (arrays_read m c s') $$ [Harr HSI]
      · isplitl [Harr] <;> iassumption
      icases H with ⟨%ha, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, ha⟩
      iexact HSI)
    (hQ := fun _ h hs => ⟨fun c => ⟨((h c).1 (0 : Fin 1)).trans (finalOut_eq m ρ c), (h c).2.2.2⟩, sem_eq_zero hs fun c => (h c).2.2.1⟩)

end Cert.RingAttn
-- ==== Proof.Frames.lean ====
/-
  The frames. The run of the ring attention is proved once for any float values; the idealized kernel is that run at the
  extended reals. The kernel as printed differs from the idealized one in one line, the scale, which is a word there and
  a named constant here. Read at bits, with every named constant standing for its word, the two programs are the same
  term, so the printed kernel's frame is the same run at bits.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.RingAttn

open Idealize.ShloMosaic Idealize.ShloMosaic.TcCoe Idealize.SL.Sem Cert.KernelIdeal

local instance : Cert.Kernel.Facts := Cert.Kernel.Gen.facts
local instance : Cert.KernelIdeal.Facts := Cert.KernelIdeal.Gen.facts
local instance : Cert.ReferenceIdeal.Facts := Cert.ReferenceIdeal.Gen.facts

/-! ## The kernel as printed -/

section Printed

/-- At bits a named constant is the word it was printed from. -/
local instance wordNamed : Named Bits where
  named _ _ {φ} w := Scalar.ofBits φ w

/-- The printed kernel's body is the idealized kernel's body at bits. -/
theorem bodies_agree :
    (Cert.Kernel.defs₀ (F := Bits) : Defs nD τ sig (Elt Bits) Λ₀) = Cert.KernelIdeal.defs₀ (F := Bits) := by
  funext p ℓ a
  cases p with
  | tc =>
    match ℓ, a with
    | ⟨0, _⟩, (t, s) => with_unfolding_all rfl
    | ⟨_ + 1, h⟩, _ => exact absurd h (Nat.not_lt.2 (Nat.le_add_left _ _))
  | _ => rfl

/-- The printed kernel's pipeline is the idealized kernel's. -/
theorem pipelines_agree :
    (Cert.Kernel.pcfgs (F := Bits) : Fin 1 → Pipeline.PCfg sig Λ₀ (Elt Bits)) = Cert.KernelIdeal.pcfgs (F := Bits) := by
  funext p
  match p with
  | ⟨0, _⟩ => with_unfolding_all rfl

/-- The frame, said of the program that calls pipeline `P` over body table `D`: it terminates, its arguments end
    unchanged and every counter ends at zero. -/
def Frames (P : Fin 1 → Pipeline.PCfg sig Λ₀ (Elt Bits)) (D : Defs nD τ sig (Elt Bits) Λ₀) : Prop :=
  ∀ (m : (ℓ : Loc nD τ sig) → Buf (Elt Bits) ℓ) (g : Dev nD → PrngReg),
    θ_run (Pipeline.defs P D) (onTc (τ := τ) fun _ => do
      Prog.lift (.customCall (Pipeline.entry (0 : Fin 1)) ())
      pure ⟨⟩) ⟨m, fun _ => 0, g⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0

/-- The idealized kernel's program, read at bits, has the frame. -/
theorem frames_bits : Frames pcfgs defs₀ := fun m g =>
  (θ_run defs _ _).mono (fun r h => ⟨fun c => (h.1 c).2, h.2⟩) (run_main (F := Bits) m g)

/-- The frame of the printed kernel. -/
theorem frame_Kernel : Cert.quiescent_Kernel := by
  have h : Frames (Cert.Kernel.pcfgs (F := Bits)) (Cert.Kernel.defs₀ (F := Bits)) :=
    bodies_agree.symm ▸ pipelines_agree.symm ▸ frames_bits
  intro m g _
  exact h m g

end Printed

/-! ## The idealized kernel and the reference -/

set_option backward.proofsInPublic true in
/-- The shape conditions of the precondition, for the kernel. -/
theorem pre_facts : Cert.Pre_finite_KernelIdeal.Facts where
  bcast_S_S4096x512 := by decide
  reducesTo_S4096x512_S_d0_1 := by decide
  h_S_ := by decide

set_option backward.proofsInPublic true in
/-- The shape conditions of the precondition, for the reference. -/
theorem pre_facts_ref : Cert.Pre_finite_ReferenceIdeal.Facts where
  bcast_S_S16384x512 := by decide
  reducesTo_S16384x512_S_d0_1 := by decide
  h_S_ := by decide

local instance : Cert.Pre_finite_KernelIdeal.Facts := pre_facts
local instance : Cert.Pre_finite_ReferenceIdeal.Facts := pre_facts_ref

/-- The frame of the idealized kernel. -/
theorem frame_KernelIdeal : Cert.quiescent_KernelIdeal := fun m g _ =>
  (θ_run defs _ _).mono (fun r h => ⟨fun c => (h.1 c).2, h.2⟩) (run_main (F := Ideal) m g)

/-- The frame of the idealized kernel from memories that meet the precondition. -/
theorem frame_KernelIdeal_finite : Cert.quiescent_KernelIdeal_pre_finite_KernelIdeal := fun m g _ =>
  (θ_run defs _ _).mono (fun r h => ⟨fun c => (h.1 c).2, h.2⟩) (run_main (F := Ideal) m g)

/-- The frame of the reference: a straight line of host operations that declares no semaphore. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The frame of the reference from memories that meet the precondition. -/
theorem frame_ReferenceIdeal_finite : Cert.quiescent_ReferenceIdeal_pre_finite_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.RingAttn
-- ==== Proof.Softmax.lean ====
/-
  Facts about extended reals that the softmax needs: a positive real factor goes through a sum whose terms may be
  infinite, the maximum of finitely many reals is a real, weights shifted by any real and normalised give the same
  weighted mean as unshifted weights summed first and divided last, and a sum over 16384 rows is the sum over the eight
  half blocks of four devices in whichever order a device meets them.
-/
module

public import Idealize.ShloMosaic.PureOps.Ideal
public import Mathlib.Data.EReal.Operations
public import Mathlib.Logic.Equiv.Fin.Basic
public import Mathlib.Algebra.BigOperators.Fin

@[expose] public section

noncomputable section

namespace Cert.RingAttn

open Idealize.ShloMosaic
open scoped BigOperators

/-- A sum of reals, read as an extended real, is the real sum. -/
theorem coe_sum {ι : Type} (t : Finset ι) (f : ι → ℝ) : ∑ i ∈ t, (f i : EReal) = ((∑ i ∈ t, f i : ℝ) : EReal) := by
  induction t using Finset.cons_induction with
  | empty => simp
  | cons a s ha ih => rw [Finset.sum_cons, Finset.sum_cons, ih, EReal.coe_add]

/-- A nonnegative real factor goes through a sum of extended reals. -/
theorem mul_sum_of_nonneg {ι : Type} (t : Finset ι) {r : ℝ} (hr : 0 ≤ r) (f : ι → EReal) :
    (r : EReal) * ∑ i ∈ t, f i = ∑ i ∈ t, (r : EReal) * f i := by
  induction t using Finset.cons_induction with
  | empty => simp
  | cons a s ha ih =>
    rw [Finset.sum_cons, Finset.sum_cons, ← ih]
    exact EReal.left_distrib_of_nonneg_of_ne_top (EReal.coe_nonneg.2 hr) (EReal.coe_ne_top r) _ _

/-- The maximum of the reals of a nonempty finite set is a real. -/
theorem max_is_real {ι : Type} (t : Finset ι) (ht : t.Nonempty) (f : ι → ℝ) :
    ∃ M : ℝ, t.fold max (⊥ : EReal) (fun i => (f i : EReal)) = (M : EReal) := by
  induction ht using Finset.Nonempty.cons_induction with
  | singleton a => exact ⟨f a, by rw [Finset.fold_singleton]; exact max_eq_left bot_le⟩
  | cons a s ha hs ih =>
    obtain ⟨M, hM⟩ := ih
    exact ⟨max (f a) M, by rw [Finset.fold_cons, hM]; exact (EReal.coe_strictMono.monotone.map_max).symm⟩

/-- A quotient of reals by a positive real. -/
theorem div_real (x y : ℝ) (hy : 0 < y) : Ideal.div (x : EReal) (y : EReal) = ((y⁻¹ * x : ℝ) : EReal) := by
  unfold Ideal.div
  rw [if_neg (by exact_mod_cast hy.ne'), ← EReal.coe_inv, ← EReal.coe_mul, mul_comm]

/-- The weighted mean of the values `v` under the scores `s`: the reference shifts the scores by `M`, divides each weight
    by the sum of the weights and then sums, the kernel sums with unshifted weights and divides at the end. -/
theorem mean_eq {ι : Type} [Fintype ι] [Nonempty ι] (s : ι → ℝ) (M : ℝ) (v : ι → EReal) :
    ∑ j, Ideal.div (Ideal.exp ((s j : EReal) - (M : EReal))) (∑ i, Ideal.exp ((s i : EReal) - (M : EReal))) * v j
      = Ideal.div (∑ j, Ideal.exp (s j : EReal) * v j) (∑ j, Ideal.exp (s j : EReal)) := by
  have hA : 0 < ∑ j, Real.exp (s j) := Finset.sum_pos (fun j _ => Real.exp_pos _) Finset.univ_nonempty
  have hsh : ∀ j, Ideal.exp ((s j : EReal) - (M : EReal)) = ((Real.exp (s j) * Real.exp (-M) : ℝ) : EReal) := fun j => by
    rw [← EReal.coe_sub, ← Real.exp_add, ← sub_eq_add_neg]; rfl
  have hex : ∀ j, Ideal.exp (s j : EReal) = ((Real.exp (s j) : ℝ) : EReal) := fun j => rfl
  simp only [hsh, hex, coe_sum, ← Finset.sum_mul]
  have hw : ∀ j, Ideal.div ((Real.exp (s j) * Real.exp (-M) : ℝ) : EReal) (((∑ i, Real.exp (s i)) * Real.exp (-M) : ℝ) : EReal)
      = (((∑ i, Real.exp (s i))⁻¹ : ℝ) : EReal) * ((Real.exp (s j) : ℝ) : EReal) := fun j => by
    rw [div_real _ _ (mul_pos hA (Real.exp_pos _)), ← EReal.coe_mul]
    congr 1
    have := (Real.exp_pos (-M)).ne'
    field_simp
  simp only [hw, mul_assoc]
  rw [← mul_sum_of_nonneg _ (inv_nonneg.2 hA.le)]
  unfold Ideal.div
  rw [if_neg (by exact_mod_cast hA.ne'), ← EReal.coe_inv, mul_comm]

/-- Row `j` of half `h` of device `e`'s block, as a row of the whole array. -/
def rowAt (e : Fin 4) (h : Fin 2) (j : Fin 2048) : Fin 16384 := ⟨4096 * e.val + 2048 * h.val + j.val, by omega⟩

/-- The 16384 rows are the rows of the two halves of the four blocks. -/
def rowsEquiv : Fin 4 × Fin 2 × Fin 2048 ≃ Fin 16384 where
  toFun p := rowAt p.1 p.2.1 p.2.2
  invFun g := (⟨g.val / 4096, by omega⟩, ⟨g.val % 4096 / 2048, by omega⟩, ⟨g.val % 2048, by omega⟩)
  left_inv := by
    rintro ⟨e, h, j⟩
    refine Prod.ext (Fin.ext ?_) (Prod.ext (Fin.ext ?_) (Fin.ext ?_))
    · show (4096 * e.val + 2048 * h.val + j.val) / 4096 = e.val; omega
    · show (4096 * e.val + 2048 * h.val + j.val) % 4096 / 2048 = h.val; omega
    · show (4096 * e.val + 2048 * h.val + j.val) % 2048 = j.val; omega
  right_inv g := Fin.ext (by show 4096 * (g.val / 4096) + 2048 * (g.val % 4096 / 2048) + g.val % 2048 = g.val; omega)

/-- The sum over half `h` of device `e`'s rows. -/
def halfSum (f : Fin 16384 → EReal) (e : Fin 4) (h : Fin 2) : EReal := ∑ j, f (rowAt e h j)

/-- A sum over all rows, block by block. -/
theorem sum_rows (f : Fin 16384 → EReal) : ∑ g, f g = ∑ e, (halfSum f e 0 + halfSum f e 1) := by
  rw [← Equiv.sum_comp rowsEquiv f, Fintype.sum_prod_type]
  refine Finset.sum_congr rfl fun e _ => ?_
  rw [Fintype.sum_prod_type, Fin.sum_univ_two]
  rfl

/-- A sum over all rows in the order in which a device meets the halves: its own block, then the blocks of the two
    neighbours `p` and `n`, then the two halves of the block of the opposite device `o`. -/
theorem sum_rows_around (f : Fin 16384 → EReal) (c p n o : Fin 4) (hp : p.val = (c.val + 3) % 4) (hn : n.val = (c.val + 1) % 4)
    (ho : o.val = (c.val + 2) % 4) :
    halfSum f c 0 + halfSum f c 1 + halfSum f p 0 + halfSum f p 1 + halfSum f n 0 + halfSum f n 1 + halfSum f o 0 + halfSum f o 1
      = ∑ g, f g := by
  rw [sum_rows, Fin.sum_univ_four]
  have hp' : p = ⟨(c.val + 3) % 4, Nat.mod_lt _ (by decide)⟩ := Fin.ext hp
  have hn' : n = ⟨(c.val + 1) % 4, Nat.mod_lt _ (by decide)⟩ := Fin.ext hn
  have ho' : o = ⟨(c.val + 2) % 4, Nat.mod_lt _ (by decide)⟩ := Fin.ext ho
  subst hp' hn' ho'
  match c with
  | 0 => show halfSum f 0 0 + halfSum f 0 1 + halfSum f 3 0 + halfSum f 3 1 + halfSum f 1 0 + halfSum f 1 1 + halfSum f 2 0 + halfSum f 2 1 = _; abel
  | 1 => show halfSum f 1 0 + halfSum f 1 1 + halfSum f 0 0 + halfSum f 0 1 + halfSum f 2 0 + halfSum f 2 1 + halfSum f 3 0 + halfSum f 3 1 = _; abel
  | 2 => show halfSum f 2 0 + halfSum f 2 1 + halfSum f 1 0 + halfSum f 1 1 + halfSum f 3 0 + halfSum f 3 1 + halfSum f 0 0 + halfSum f 0 1 = _; abel
  | 3 => show halfSum f 3 0 + halfSum f 3 1 + halfSum f 2 0 + halfSum f 2 1 + halfSum f 0 0 + halfSum f 0 1 + halfSum f 1 0 + halfSum f 1 1 = _; abel

end Cert.RingAttn
-- ==== Proof.KernelValue.lean ====
/-
  What the kernel leaves in a device's result, at the extended reals, element by element: the sum over the eight half
  blocks of weight times value, divided by the sum of the weights.
-/
module

public import proofs.«01_k».proof.Proof.Body3
public import proofs.«01_k».proof.Proof.Softmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

set_option maxRecDepth 16384

noncomputable section

namespace Cert.RingAttn

open Cert.KernelIdeal Cert.KernelIdeal.Gen
open Idealize.ShloMosaic Idealize.ShloMosaic.TcCoe Idealize.ShloMosaic.ValueIdx
open scoped BigOperators

/-! ## One sweep's payloads, at an index -/

section Payloads
variable (q : Vec Ideal S512x512 .bf16) (kk vv : Vec Ideal S1x2048x512 .bf16)

/-- The weight that a query row gives a key row of a half: the exponential of their product. -/
theorem weight_apply (r : Fin 512) (j : Fin 2048) :
    k0_pay6 (F := Ideal) q kk (ix2 r j) = Ideal.exp (∑ k : Fin 512, q (ix2 r k) * kk (ix3 0 j k)) := by
  have h := Ideal.matmul_transposedRhs_apply (M := 512) (K := 512) (N := 2048) (φ₁ := .bf16) (φ₂ := .bf16) none q
    (shapeCast S2048x512 kk shapeCasts_S1x2048x512_S2048x512) (constant S512x2048 .f32 0x00000000#32) r j
  rw [constant_apply, Ideal.ofBits_zero_f32, zero_add] at h
  refine (congrArg Ideal.exp h).trans (congrArg Ideal.exp (Finset.sum_congr rfl fun k _ => ?_))
  rw [shapeCast_1ab_ab_apply]

/-- The later sweeps take the same weights. -/
theorem weight_later : k0_pay9 (F := Ideal) q kk = k0_pay6 q kk := rfl

/-- The weighted sum of a half's values. -/
theorem weighted_apply (r : Fin 512) (d : Fin 512) :
    k0_pay7 (F := Ideal) q kk vv (ix2 r d) = ∑ j : Fin 2048, k0_pay6 (F := Ideal) q kk (ix2 r j) * vv (ix3 0 j d) := by
  have h := Ideal.matmul_plain_apply (M := 512) (K := 2048) (N := 512) (φ₁ := .bf16) (φ₂ := .bf16) none
    (truncf .bf16 (k0_pay6 (F := Ideal) q kk) bitsLt_bf16_f32 : FVec Ideal S512x2048 .bf16)
    (shapeCast S2048x512 vv shapeCasts_S1x2048x512_S2048x512) (constant S512x512 .f32 0x00000000#32) r d
  rw [constant_apply, Ideal.ofBits_zero_f32, zero_add] at h
  refine h.trans (Finset.sum_congr rfl fun j _ => ?_)
  rw [shapeCast_1ab_ab_apply]
  rfl

/-- The sum of a row of weights, as the kernel's column of row sums holds it. -/
theorem rowSum_apply (r : Fin 512) :
    shapeCast S512x1 (multiReduction .add [1] S512 (k0_pay6 (F := Ideal) q kk) 0x00000000#32 reduces_S512x2048_S512 (.inl rfl) rfl)
      shapeCasts_S512_S512x1 (ix2 r 0) = ∑ j : Fin 2048, k0_pay6 (F := Ideal) q kk (ix2 r j) := by
  rw [shapeCast_a_a1_apply]
  refine (Ideal.multiReduction_add_single _ _ _ _ _ _).trans (Finset.sum_congr rfl fun j _ => ?_)
  congr 1
  funext a
  match a with
  | ⟨0, _⟩ => rfl
  | ⟨1, _⟩ => rfl

/-- The first sweep's row sums. -/
theorem sum_first_apply (r : Fin 512) :
    k0_pay8 (F := Ideal) q kk (ix2 r 0) = ∑ j : Fin 2048, k0_pay6 (F := Ideal) q kk (ix2 r j) := by
  unfold k0_pay8
  rw [shapeCast_self]
  exact rowSum_apply q kk r

/-- A middle sweep's row sums: the sums before it plus its own. -/
theorem sum_more_apply (l : Vec Ideal S512x1 .f32) (r : Fin 512) :
    k0_pay10 (F := Ideal) q kk l (ix2 r 0) = l (ix2 r 0) + ∑ j : Fin 2048, k0_pay6 (F := Ideal) q kk (ix2 r j) := by
  unfold k0_pay10
  rw [shapeCast_self, addf_apply, weight_later]
  exact congrArg (l (ix2 r 0) + ·) (rowSum_apply q kk r)

/-- A middle sweep's weighted sums: the sums before it plus its own. -/
theorem weighted_more_apply (a : Vec Ideal S512x512 .f32) (r d : Fin 512) :
    k0_pay11 (F := Ideal) q kk vv a (ix2 r d)
      = a (ix2 r d) + ∑ j : Fin 2048, k0_pay6 (F := Ideal) q kk (ix2 r j) * vv (ix3 0 j d) := by
  unfold k0_pay11
  rw [addf_apply, shapeCast_self]
  exact congrArg (a (ix2 r d) + ·) (weighted_apply q kk vv r d)

/-- The last sweep's quotient. -/
theorem quotient_apply (a : Vec Ideal S512x512 .f32) (l : Vec Ideal S512x1 .f32) (r d : Fin 512) :
    k0_pay27 (F := Ideal) q kk vv a l (ix2 r d)
      = Ideal.div (a (ix2 r d) + ∑ j : Fin 2048, k0_pay6 (F := Ideal) q kk (ix2 r j) * vv (ix3 0 j d))
          (l (ix2 r 0) + ∑ j : Fin 2048, k0_pay6 (F := Ideal) q kk (ix2 r j)) := by
  have hn := weighted_more_apply q kk vv a r d
  have hd : broadcastTo S512x512 (addf l (shapeCast S512x1 (multiReduction .add [1] S512 (k0_pay6 (F := Ideal) q kk) 0x00000000#32
      reduces_S512x2048_S512 (.inl rfl) rfl) shapeCasts_S512_S512x1)) broadcasts_S512x1_S512x512 (ix2 r d)
      = l (ix2 r 0) + ∑ j : Fin 2048, k0_pay6 (F := Ideal) q kk (ix2 r j) := by
    rw [broadcastTo_apply _ _ _ (ix2 r 0) (fun a => by
      match a with
      | ⟨0, _⟩ => rfl
      | ⟨1, _⟩ => rfl), addf_apply]
    exact congrArg (l (ix2 r 0) + ·) (rowSum_apply q kk r)
  rw [← hn, ← hd]
  rfl

end Payloads

/-! ## The sweeps, at an index -/

section Sweeps
variable (q : Vec Ideal S4096x512 .bf16) (kk vv : Vec Ideal S1x2048x512 .bf16) (a : Acc Ideal)

/-- The weight that query row `i` gives key row `j` of a half. -/
def wt (i : Fin 4096) (j : Fin 2048) : EReal := Ideal.exp (∑ k : Fin 512, q (ix2 i k) * kk (ix3 0 j k))

/-- A row of the row block that it lies in. -/
theorem blk_row {α : Type} {w : ℕ} (f : (⟨2, ![4096, w]⟩ : Shape).Idx → α) (i : Fin 4096) (d : Fin w) :
    blk ⟨i.val / 512, by omega⟩ f (ix2 ⟨i.val % 512, by omega⟩ d) = f (ix2 i d) := by
  show f (ix2 ⟨512 * (i.val / 512) + i.val % 512, _⟩ d) = _
  congr 2
  exact Fin.ext (by show 512 * (i.val / 512) + i.val % 512 = i.val; omega)

/-- A row block's weights are the whole array's at that row. -/
theorem weight_blk (i : Fin 4096) (j : Fin 2048) :
    k0_pay6 (F := Ideal) (blk ⟨i.val / 512, by omega⟩ q) kk (ix2 ⟨i.val % 512, by omega⟩ j) = wt q kk i j := by
  rw [weight_apply]
  unfold wt
  simp only [blk_row]

theorem start0_fst (i : Fin 4096) (d : Fin 512) :
    (start0 q kk vv).1 (ix2 i d) = ∑ j, wt q kk i j * vv (ix3 0 j d) := by
  show k0_pay7 (F := Ideal) (blk ⟨i.val / 512, _⟩ q) kk vv (ix2 ⟨i.val % 512, _⟩ d) = _
  rw [weighted_apply]
  exact Finset.sum_congr rfl fun j _ => congrArg (· * vv (ix3 0 j d)) (weight_blk q kk i j)

theorem start0_snd (i : Fin 4096) : (start0 q kk vv).2 (ix2 i 0) = ∑ j, wt q kk i j := by
  show k0_pay8 (F := Ideal) (blk ⟨i.val / 512, _⟩ q) kk (ix2 ⟨i.val % 512, _⟩ 0) = _
  rw [sum_first_apply]
  exact Finset.sum_congr rfl fun j _ => weight_blk q kk i j

theorem more_fst (i : Fin 4096) (d : Fin 512) :
    (more q kk vv a).1 (ix2 i d) = a.1 (ix2 i d) + ∑ j, wt q kk i j * vv (ix3 0 j d) := by
  show k0_pay11 (F := Ideal) (blk ⟨i.val / 512, _⟩ q) kk vv (blk ⟨i.val / 512, _⟩ a.1) (ix2 ⟨i.val % 512, _⟩ d) = _
  rw [weighted_more_apply, blk_row]
  exact congrArg (a.1 (ix2 i d) + ·) (Finset.sum_congr rfl fun j _ => congrArg (· * vv (ix3 0 j d)) (weight_blk q kk i j))

theorem more_snd (i : Fin 4096) : (more q kk vv a).2 (ix2 i 0) = a.2 (ix2 i 0) + ∑ j, wt q kk i j := by
  show k0_pay10 (F := Ideal) (blk ⟨i.val / 512, _⟩ q) kk (blk ⟨i.val / 512, _⟩ a.2) (ix2 ⟨i.val % 512, _⟩ 0) = _
  rw [sum_more_apply, blk_row]
  exact congrArg (a.2 (ix2 i 0) + ·) (Finset.sum_congr rfl fun j _ => weight_blk q kk i j)

theorem finish_apply (i : Fin 4096) (d : Fin 512) :
    finish q kk vv a (ix2 i d) = Ideal.div (a.1 (ix2 i d) + ∑ j, wt q kk i j * vv (ix3 0 j d)) (a.2 (ix2 i 0) + ∑ j, wt q kk i j) := by
  show k0_pay27 (F := Ideal) (blk ⟨i.val / 512, _⟩ q) kk vv (blk ⟨i.val / 512, _⟩ a.1) (blk ⟨i.val / 512, _⟩ a.2) (ix2 ⟨i.val % 512, _⟩ d) = _
  rw [quotient_apply, blk_row, blk_row]
  exact congrArg₂ (fun x y => Ideal.div (a.1 (ix2 i d) + x) (a.2 (ix2 i 0) + y))
    (Finset.sum_congr rfl fun j _ => congrArg (· * vv (ix3 0 j d)) (weight_blk q kk i j)) (Finset.sum_congr rfl fun j _ => weight_blk q kk i j)

end Sweeps

/-! ## The buffers, at an index -/

/-- The scaled queries. -/
theorem qbf_apply (x : Vec Ideal S4096x512 .f32) (i : Fin 4096) (k : Fin 512) :
    qbf x (ix2 i k) = x (ix2 i k) * (((Real.sqrt 512)⁻¹ : ℝ) : EReal) := by
  unfold qbf k0_pay5
  rw [shapeCast_self, shapeCast_self]
  rfl

/-- A half of a packed block. -/
theorem half_apply (h : Fin 2) (x : Vec Ideal S4096x512 .f32) (j : Fin 2048) (k : Fin 512) :
    half h (packed x) (ix3 0 j k) = x (ix2 ⟨2048 * h.val + j.val, by omega⟩ k) := by
  rw [half_packed]
  unfold k0_pay1
  rw [shapeCast_ab_1ab_apply, shapeCast_self]
  rfl

/-! ## The result, at an index -/

section Result
variable (m : (ℓ : Loc nD τ sig) → Buf (Elt Ideal) ℓ)

/-- The weights and values of half `h` of device `e`, summed for row `i` and column `d` of device `c`. -/
def numH (c : Dev nD) (i : Fin 4096) (d : Fin 512) (e : Dev nD) (h : Fin 2) : EReal :=
  ∑ j, wt (Qs m c) (half h (KP m e)) i j * half h (VP m e) (ix3 0 j d)
/-- The weights of half `h` of device `e`, summed for row `i` of device `c`. -/
def denH (c : Dev nD) (i : Fin 4096) (e : Dev nD) (h : Fin 2) : EReal := ∑ j, wt (Qs m c) (half h (KP m e)) i j

/-- A device's result: the eight weighted sums in the order of the sweeps, over the eight sums of weights. -/
theorem outAt_apply (c : Dev nD) (i : Fin 4096) (d : Fin 512) :
    outAt m c (ix2 i d) = Ideal.div
      (numH m c i d c 0 + numH m c i d c 1 + numH m c i d (prv c) 0 + numH m c i d (prv c) 1 + numH m c i d (nxt c) 0
        + numH m c i d (nxt c) 1 + numH m c i d (prv (prv c)) 0 + numH m c i d (nxt (nxt c)) 1)
      (denH m c i c 0 + denH m c i c 1 + denH m c i (prv c) 0 + denH m c i (prv c) 1 + denH m c i (nxt c) 0
        + denH m c i (nxt c) 1 + denH m c i (prv (prv c)) 0 + denH m c i (nxt (nxt c)) 1) := by
  unfold outAt acc7 acc6 acc5 acc4 acc3 acc2 acc1
  simp only [finish_apply, more_fst, more_snd, start0_fst, start0_snd]
  rfl

end Result

end Cert.RingAttn
-- ==== Proof.RefValue.lean ====
/-
  What the reference leaves in its result, at the extended reals, element by element, for real queries and keys.
-/
module

public import proofs.«01_k».proof.Proof.Gen.ReferenceIdeal
public import proofs.«01_k».proof.Proof.Softmax
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.KernelVsHost
public import Idealize.ShloMosaic.Lib.IdealHost
public import Idealize.ShloMosaic.PureOps.Ideal.Laws

@[expose] public section

set_option maxRecDepth 16384

noncomputable section

namespace Cert.RingAttn.Ref

open Cert.ReferenceIdeal Cert.ReferenceIdeal.Gen
open Idealize.ShloMosaic Idealize.ShloMosaic.TcCoe Idealize.ShloMosaic.ValueIdx
open scoped BigOperators

/-! ## The reference's term, in pieces -/

/-- The scaled scores of every query row against every key row. -/
def scores (x y : FVec Ideal S16384x512 .f32) : FVec Ideal S16384x16384 .f32 :=
  Host.divf (Host.dotGeneral dot_S16384x512_S512x16384_S16384x16384_1_0_0_1_n_n none x
      (transpose S512x16384 [1, 0] y transposes_S16384x512_S512x16384_1_0))
    (broadcastInDim S16384x16384 ![] bcast_S_S16384x16384 (id (Host.sqrt (constant S_ .f32 0x44000000#32))))

/-- A column of row values laid along every row. -/
def along (v : FVec Ideal S16384 .f32) : FVec Ideal S16384x16384 .f32 :=
  broadcastInDim S16384x16384 ![0, 1] bcast_S16384x1_S16384x16384_0_1 (broadcastInDim S16384x1 ![0] bcast_S16384_S16384x1_0 v)

/-- The rows' greatest elements. -/
def rowMax (s : FVec Ideal S16384x16384 .f32) : FVec Ideal S16384 .f32 :=
  Host.reduce FloatOps.maximumf s (constant S_ .f32 0xFF800000#32) reducesTo_S16384x16384_S16384_d1 h_S_

/-- The rows' sums. -/
def rowSum (s : FVec Ideal S16384x16384 .f32) : FVec Ideal S16384 .f32 :=
  Host.reduceAdd s (constant S_ .f32 0x00000000#32) reducesTo_S16384x16384_S16384_d1 h_S_

/-- The exponentials of the scores less their row's greatest. -/
def weights (s : FVec Ideal S16384x16384 .f32) : FVec Ideal S16384x16384 .f32 := Host.exp (subf s (along (rowMax s)))

/-- The reference's result. -/
def result (x y z : FVec Ideal S16384x512 .f32) : FVec Ideal S16384x512 .f32 :=
  Host.dotGeneral dot_S16384x16384_S16384x512_S16384x512_1_0_0_1_n_n none
    (Host.divf (weights (scores x y)) (along (rowSum (weights (scores x y))))) z

/-! ## Each piece at an index -/

/-- A plain product of the host, at an index. -/
theorem product_apply {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (i : Fin M) (j : Fin N) :
    Host.dotGeneral d none l r (ix2 i j) = ∑ k : Fin K, l (ix2 i k) * r (ix2 k j) := by
  subst hd
  rw [← matmul_zero_eq_dotGeneral]
  have h := Ideal.matmul_plain_apply (M := M) (K := K) (N := N) (φ₁ := .f32) (φ₂ := .f32) none l r
    (constant ⟨2, ![M, N]⟩ .f32 0x00000000#32) i j
  rw [constant_apply, Ideal.ofBits_zero_f32, zero_add] at h
  exact h

theorem along_apply (v : FVec Ideal S16384 .f32) (g j : Fin 16384) : along v (ix2 g j) = v (ix1 g) := by
  unfold along
  rw [broadcastInDim_apply _ _ _ _ (ix2 g 0) (fun a => by
    match a with
    | ⟨0, _⟩ => rfl
    | ⟨1, _⟩ => rfl)]
  exact broadcastInDim_apply _ _ _ _ (ix1 g) (fun a => by
    match a with
    | ⟨0, _⟩ => rfl)

set_option backward.proofsInPublic true in
/-- Dropping the second axis of a square array leaves its rows. -/
theorem drops : S16384x16384.Reduces [1] S16384 := by decide

theorem lift_row (g j : Fin 16384) : drops.lift (ix1 g) j = ix2 g j := by
  funext a
  match a with
  | ⟨0, _⟩ => rfl
  | ⟨1, _⟩ => rfl

theorem rowSum_apply (s : FVec Ideal S16384x16384 .f32) (g : Fin 16384) : rowSum s (ix1 g) = ∑ j, s (ix2 g j) := by
  unfold rowSum
  rw [hostReduceAdd_apply, constant_apply, Ideal.ofBits_zero_f32, Ideal.hostReduceAdd_single _ drops, zero_add]
  exact Finset.sum_congr rfl fun j _ => congrArg s (lift_row g j)

/-- The word of minus infinity. -/
theorem word_bot : Ideal.ofBits .f32 0xFF800000#32 = ⊥ := by simp [Ideal.ofBits, Ideal.ieee]

theorem rowMax_apply (s : FVec Ideal S16384x16384 .f32) (g : Fin 16384) :
    rowMax s (ix1 g) = (Finset.univ : Finset (Fin 16384)).fold max ⊥ (fun j => (s (ix2 g j) : EReal)) := by
  unfold rowMax
  rw [Host.reduce_eq_fold_single _ _ _ _ drops, constant_apply, word_bot]
  refine congrArg (Finset.fold max (⊥ : EReal) · Finset.univ) (funext fun j => ?_)
  exact congrArg s (lift_row g j)

/-- The word of 512. -/
theorem word_512 : Ideal.ofBits .f32 0x44000000#32 = ((512 : ℝ) : EReal) := by
  simp [Ideal.ofBits, Ideal.ieee]
  rw [← EReal.coe_mul]
  norm_num

/-- A score of real queries and keys. -/
theorem scores_apply (X Y : FVec Ideal S16384x512 .f32) (x y : Fin 16384 → Fin 512 → ℝ) (hx : ∀ g k, X (ix2 g k) = (x g k : EReal))
    (hy : ∀ g k, Y (ix2 g k) = (y g k : EReal)) (g j : Fin 16384) :
    scores X Y (ix2 g j) = (((Real.sqrt 512)⁻¹ * ∑ k, x g k * y j k : ℝ) : EReal) := by
  have hn : Host.dotGeneral dot_S16384x512_S512x16384_S16384x16384_1_0_0_1_n_n none X
      (transpose S512x16384 [1, 0] Y transposes_S16384x512_S512x16384_1_0) (ix2 g j) = ((∑ k, x g k * y j k : ℝ) : EReal) := by
    rw [product_apply dot_S16384x512_S512x16384_S16384x16384_1_0_0_1_n_n rfl, ← coe_sum]
    refine Finset.sum_congr rfl fun k _ => ?_
    rw [transpose_ix2_apply, hx, hy, EReal.coe_mul]
  have hd : broadcastInDim S16384x16384 ![] bcast_S_S16384x16384 (id (Host.sqrt (F := Ideal) (constant S_ .f32 0x44000000#32))) (ix2 g j)
      = ((Real.sqrt 512 : ℝ) : EReal) := by
    rw [broadcastInDim_scalar_apply]
    show Ideal.sqrt (Ideal.ofBits .f32 0x44000000#32) = _
    rw [word_512]
    show (if (512 : ℝ) < 0 then (⊥ : EReal) else ((Real.sqrt 512 : ℝ) : EReal)) = _
    rw [if_neg (by norm_num)]
  unfold scores
  rw [hostDivf_apply, hn, hd]
  exact div_real _ _ (Real.sqrt_pos.2 (by norm_num))

/-- The reference's result at an index, for real queries and keys and any values: the values' mean under the scores. -/
theorem result_apply (X Y Z : FVec Ideal S16384x512 .f32) (x y : Fin 16384 → Fin 512 → ℝ) (hx : ∀ g k, X (ix2 g k) = (x g k : EReal))
    (hy : ∀ g k, Y (ix2 g k) = (y g k : EReal)) (g : Fin 16384) (d : Fin 512) :
    result X Y Z (ix2 g d)
      = Ideal.div (∑ j, Ideal.exp (((Real.sqrt 512)⁻¹ * ∑ k, x g k * y j k : ℝ) : EReal) * Z (ix2 j d))
          (∑ j, Ideal.exp (((Real.sqrt 512)⁻¹ * ∑ k, x g k * y j k : ℝ) : EReal)) := by
  have hs := scores_apply X Y x y hx hy g
  obtain ⟨M, hM⟩ := max_is_real (Finset.univ : Finset (Fin 16384)) Finset.univ_nonempty
    (fun j => (Real.sqrt 512)⁻¹ * ∑ k, x g k * y j k)
  have hm : rowMax (scores X Y) (ix1 g) = (M : EReal) := by
    rw [rowMax_apply, ← hM]
    exact congrArg (Finset.fold max (⊥ : EReal) · Finset.univ) (funext hs)
  have hw : ∀ j, weights (scores X Y) (ix2 g j)
      = Ideal.exp ((((Real.sqrt 512)⁻¹ * ∑ k, x g k * y j k : ℝ) : EReal) - (M : EReal)) := fun j => by
    rw [← hs j, ← hm, ← along_apply (rowMax (scores X Y)) g j]
    rfl
  unfold result
  rw [product_apply dot_S16384x16384_S16384x512_S16384x512_1_0_0_1_n_n rfl, ← mean_eq _ M]
  refine Finset.sum_congr rfl fun j _ => congrArg (· * Z (ix2 j d)) ?_
  rw [hostDivf_apply, along_apply, rowSum_apply, hw j]
  exact congrArg (Ideal.div _) (Finset.sum_congr rfl fun i _ => hw i)

end Cert.RingAttn.Ref
-- ==== Proof.Equal.lean ====
/-
  The value claim: when the devices' queries and keys are finite, device `c`'s result is block `c` of the reference's.
-/
module

public import proofs.«01_k».proof.Defs
public import proofs.«01_k».proof.Proof.Frames
public import proofs.«01_k».proof.Proof.KernelValue
public import proofs.«01_k».proof.Proof.RefValue
public import Idealize.ShloMosaic.Lib.Layout
public import Idealize.ShloMosaic.Lib.ReduceAll

@[expose] public section

set_option maxRecDepth 16384

noncomputable section

namespace Cert.RingAttn

open Cert.KernelIdeal Cert.KernelIdeal.Gen
open Idealize.ShloMosaic Idealize.ShloMosaic.TcCoe Idealize.ShloMosaic.ValueIdx Idealize.SL.Sem
open scoped BigOperators

local instance : Cert.KernelIdeal.Facts := Cert.KernelIdeal.Gen.facts
local instance : Cert.ReferenceIdeal.Facts := Cert.ReferenceIdeal.Gen.facts
local instance : Cert.Pre_finite_KernelIdeal.Facts := pre_facts

/-! ## What the precondition says -/

/-- An extended real whose absolute value is below the word of infinity is a real. -/
theorem real_of_abs_lt (x : EReal) (h : Ideal.cmp .olt (max x (-x)) (Ideal.ofBits .f32 0x7F800000#32) = 1#1) :
    x = (x.toReal : EReal) := by
  have hw : Ideal.ofBits .f32 0x7F800000#32 = ⊤ := by simp [Ideal.ofBits, Ideal.ieee]
  rw [hw] at h
  have hlt : max x (-x) < ⊤ := by
    by_contra hc
    have h0 : Ideal.cmp .olt (max x (-x)) ⊤ = 0#1 := by
      show BitVec.ofBool (decide (max x (-x) < ⊤)) = 0#1
      rw [decide_eq_false hc]
      rfl
    rw [h0] at h
    exact absurd h (by decide)
  have h1 : x ≠ ⊤ := fun e => by rw [e] at hlt; exact absurd (lt_of_le_of_lt (le_max_left _ _) hlt) (lt_irrefl _)
  have h2 : x ≠ ⊥ := fun e => by rw [e] at hlt; exact absurd (lt_of_le_of_lt (le_max_right _ _) hlt) (by simp)
  exact (EReal.coe_toReal h1 h2).symm

/-- Two bits whose conjunction is one are both one. -/
theorem both_one : ∀ a b : BitVec 1, IntOp.andi a b = 1#1 → a = 1#1 ∧ b = 1#1 := by decide

/-- An array all of whose absolute values are below infinity holds reals. -/
theorem reals_of_all (x : FVec Ideal S4096x512 .f32)
    (h : Host.reduce IntOp.andi (cmpf .olt (Host.absf x) (broadcastInDim S4096x512 ![] pre_facts.bcast_S_S4096x512
        (constant (F := Ideal) Cert.Pre_finite_KernelIdeal.S_ .f32 0x7F800000#32)))
      (constantI Cert.Pre_finite_KernelIdeal.S_ 1 1#1) pre_facts.reducesTo_S4096x512_S_d0_1 pre_facts.h_S_ ix0 = 1#1) (i : S4096x512.Idx) :
    x i = ((x i : EReal).toReal : EReal) :=
  haveI : Subsingleton Cert.Pre_finite_KernelIdeal.S_.Idx := ⟨fun a b => funext fun k => k.elim0⟩
  real_of_abs_lt (x i) (Host.reduce_andi_all _ _ _ _ ix0 h i)

/-- Under the precondition a device's queries and keys are reals. -/
theorem reals_of_pre (m : (ℓ : Loc nD τ sig) → Buf (Elt Ideal) ℓ) (h : Cert.Pre_KernelIdeal_finite_KernelIdeal m) (c : Dev nD)
    (i : S4096x512.Idx) :
    (Aq m c i : EReal) = ((Aq m c i : EReal).toReal : EReal) ∧ (Ak m c i : EReal) = ((Ak m c i : EReal).toReal : EReal) := by
  have h0 := both_one _ _ (congrFun (h c) ix0)
  exact ⟨reals_of_all _ h0.1 i, reals_of_all _ h0.2 i⟩

/-! ## Blocks of the whole arrays -/

/-- Row `i` of device `c`'s block, as a row of the whole array. -/
def rowOf (c : Dev nD) (i : Fin 4096) : Fin 16384 := ⟨4096 * c.val + i.val, by have : c.val < 4 := c.isLt; omega⟩

/-- A block of an array of 16384 rows, at an index. -/
theorem block_row {α : Type} (c : Dev nD) (X : (⟨2, ![16384, 512]⟩ : Shape).Idx → α) (i : Fin 4096) (d : Fin 512) :
    Layout.block ⟨2, ![4096, 512]⟩ ⟨2, ![16384, 512]⟩ 0 4 c X (by decide) (ix2 i d) = X (ix2 (rowOf c i) d) := by
  rw [Layout.block_apply]
  congr 1
  funext a
  match a with
  | ⟨0, _⟩ => exact Fin.ext (by show c.val * 4096 + i.val = 4096 * c.val + i.val; omega)
  | ⟨1, _⟩ => rfl

/-! ## The kernel's result on the whole arrays -/

section Whole
variable (m : (ℓ : Loc nD τ sig) → Buf (Elt Ideal) ℓ) (X Y Z : (⟨2, ![16384, 512]⟩ : Shape).Idx → EReal)
  (hq : ∀ c, Aq m c = Layout.block ⟨2, ![4096, 512]⟩ ⟨2, ![16384, 512]⟩ 0 4 c X)
  (hk : ∀ c, Ak m c = Layout.block ⟨2, ![4096, 512]⟩ ⟨2, ![16384, 512]⟩ 0 4 c Y)
  (hv : ∀ c, Av m c = Layout.block ⟨2, ![4096, 512]⟩ ⟨2, ![16384, 512]⟩ 0 4 c Z)
  (x y : Fin 16384 → Fin 512 → ℝ) (hx : ∀ g k, X (ix2 g k) = (x g k : EReal)) (hy : ∀ g k, Y (ix2 g k) = (y g k : EReal))

/-- The weight of key row `g` for row `i` of device `c`. -/
def wgt (c : Dev nD) (i : Fin 4096) (g : Fin 16384) : EReal :=
  Ideal.exp (((Real.sqrt 512)⁻¹ * ∑ k, x (rowOf c i) k * y g k : ℝ) : EReal)

include hq hk hx hy in
/-- The kernel's weights are those of the whole arrays. -/
theorem wt_whole (c e : Dev nD) (h : Fin 2) (i : Fin 4096) (j : Fin 2048) :
    wt (Qs m c) (half h (KP m e)) i j = wgt x y c i (rowAt e h j) := by
  unfold wt wgt
  congr 1
  rw [Finset.mul_sum, ← coe_sum]
  refine Finset.sum_congr rfl fun k _ => ?_
  have e1 : Qs m c (ix2 i k) = ((x (rowOf c i) k : ℝ) : EReal) * (((Real.sqrt 512)⁻¹ : ℝ) : EReal) := by
    unfold Qs
    rw [qbf_apply, hq c, block_row, hx]
  have e2 : half h (KP m e) (ix3 0 j k) = ((y (rowAt e h j) k : ℝ) : EReal) := by
    unfold KP
    rw [half_apply, hk e, block_row, ← hy]
    congr 2
    exact Fin.ext (by show 4096 * e.val + (2048 * h.val + j.val) = 4096 * e.val + 2048 * h.val + j.val; omega)
  rw [e1, e2, ← EReal.coe_mul, ← EReal.coe_mul]
  congr 1
  ring

include hv in
/-- The kernel's values are those of the whole array. -/
theorem val_whole (e : Dev nD) (h : Fin 2) (j : Fin 2048) (d : Fin 512) : half h (VP m e) (ix3 0 j d) = Z (ix2 (rowAt e h j) d) := by
  unfold VP
  rw [half_apply, hv e, block_row]
  congr 2
  exact Fin.ext (by show 4096 * e.val + (2048 * h.val + j.val) = 4096 * e.val + 2048 * h.val + j.val; omega)

include hq hk hv hx hy in
/-- A device's result, over the whole arrays. -/
theorem outAt_whole (c : Dev nD) (i : Fin 4096) (d : Fin 512) :
    outAt m c (ix2 i d) = Ideal.div (∑ g, wgt x y c i g * Z (ix2 g d)) (∑ g, wgt x y c i g) := by
  have hn : ∀ e h, numH m c i d e h = halfSum (fun g => wgt x y c i g * Z (ix2 g d)) e h := fun e h =>
    Finset.sum_congr rfl fun j _ => by rw [wt_whole m X Y hq hk x y hx hy, val_whole m Z hv]
  have hd : ∀ e h, denH m c i e h = halfSum (wgt x y c i) e h := fun e h =>
    Finset.sum_congr rfl fun j _ => wt_whole m X Y hq hk x y hx hy c e h i j
  have ho : ∀ c : Dev nD, prv (prv c) = nxt (nxt c) := by decide
  have hov : (nxt (nxt c)).val = (c.val + 2) % 4 := by show ((c.val + 1) % 4 + 1) % 4 = _; omega
  rw [outAt_apply, ho]
  simp only [hn, hd]
  rw [sum_rows_around _ c (prv c) (nxt c) (nxt (nxt c)) rfl rfl hov, sum_rows_around _ c (prv c) (nxt c) (nxt (nxt c)) rfl rfl hov]

end Whole

/-! ## The claim -/

/-- At the extended reals the kernel's results are the blocks of the reference's. -/
theorem kernel_eq_reference : Cert.algebraic_KernelIdeal_ReferenceIdeal_pre_finite_KernelIdeal := by
  intro m g m' g' hpre hargs
  have hX : ∀ (X : (⟨2, ![16384, 512]⟩ : Shape).Idx → EReal) (A : Dev nD → S4096x512.Idx → EReal)
      (hA : ∀ c, A c = Layout.block ⟨2, ![4096, 512]⟩ ⟨2, ![16384, 512]⟩ 0 4 c X) (hr : ∀ c i, A c i = ((A c i).toReal : EReal))
      (r : Fin 16384) (k : Fin 512), X (ix2 r k) = ((X (ix2 r k)).toReal : EReal) := by
    intro X A hA hr r k
    have hrow : rowOf ⟨r.val / 4096, by show _ < 4; omega⟩ ⟨r.val % 4096, by omega⟩ = r :=
      Fin.ext (by show 4096 * (r.val / 4096) + r.val % 4096 = r.val; omega)
    have h := hr ⟨r.val / 4096, by show _ < 4; omega⟩ (ix2 ⟨r.val % 4096, by omega⟩ k)
    rw [hA, block_row, hrow] at h
    exact h
  have hx := hX _ (Aq m) (fun c => (hargs c).1) (fun c i => (reals_of_pre m hpre c i).1)
  have hy := hX _ (Ak m) (fun c => (hargs c).2.1) (fun c i => (reals_of_pre m hpre c i).2)
  refine ⟨Ref.result (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg2)), ?_, ?_⟩
  · refine (θ_run defs _ _).mono (fun r h c => ?_) (run_main (F := Ideal) m g)
    refine ⟨(h.1 c).1.trans (funext fun i => ?_), (h.1 c).2⟩
    obtain ⟨p, q, hi⟩ : ∃ (p : Fin 4096) (q : Fin 512), i = ix2 p q := ⟨i 0, i 1, eq_ix2 i⟩
    rw [hi]
    exact (outAt_whole m _ _ _ (fun c => (hargs c).1) (fun c => (hargs c).2.1) (fun c => (hargs c).2.2) _ _ hx hy c p q).trans
      ((Ref.result_apply _ _ _ _ _ hx hy (rowOf c p) q).symm.trans (block_row c _ p q).symm)
  · refine (θ_run Cert.ReferenceIdeal.defs _ _).mono (fun r h => ?_) (Cert.ReferenceIdeal.Value.run (F := Ideal) m' g')
    exact h 0

end Cert.RingAttn
-- ==== Proof.lean ====
/-
  The certificate's claim, put together: the frames (Proof/Frames.lean), that the idealized kernel differs from the
  printed one only in its named scale, and that at the extended reals the kernel's result is the reference's
  (Proof/Equal.lean).
-/
module

public import proofs.«01_k».proof.Defs
public import proofs.«01_k».proof.Proof.Frames
public import proofs.«01_k».proof.Proof.Equal

@[expose] public section

namespace Cert.Proof

open Idealize.ShloMosaic

/-- The named scale denotes the value the ledger states for it. -/
theorem scale_named : Cert.preserves_Kernel_KernelIdeal :=
  IdealRules.named_const.statement Cert.KernelIdeal.κ "scale" .f32 0x3D3504F3#32 (((Real.sqrt 512)⁻¹ : ℝ) : EReal) rfl

theorem claim : Cert.Claim :=
  ⟨Cert.Kernel.Gen.facts, Cert.KernelIdeal.Gen.facts, Cert.ReferenceIdeal.Gen.facts, Cert.RingAttn.pre_facts,
    Cert.RingAttn.pre_facts_ref, Cert.RingAttn.frame_Kernel, Cert.RingAttn.frame_KernelIdeal,
    Cert.RingAttn.frame_KernelIdeal_finite, Cert.RingAttn.frame_ReferenceIdeal,
    Cert.RingAttn.frame_ReferenceIdeal_finite, scale_named, Cert.RingAttn.kernel_eq_reference⟩

end Cert.Proof
